-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cancels [hPre_cancels : Cert.Pre_cancels.Facts] (m : (ℓ : Loc Cert.KernelIdeal.nD Cert.KernelIdeal.τ Cert.KernelIdeal.sig) → Buf (Elt Ideal) ℓ) : Prop :=
  ∀ c : Dev Cert.KernelIdeal.nD,
    (Cert.Pre_cancels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_cancels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_cancels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_cancels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cancels [hPre_cancels : Cert.Pre_cancels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cancels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_cancels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_cancels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_cancels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_cancels [hKernelIdeal : Cert.KernelIdeal.Facts] [hPre_cancels : Cert.Pre_cancels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cancels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_cancels [hReferenceIdeal : Cert.ReferenceIdeal.Facts] [hPre_cancels : Cert.Pre_cancels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cancels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_cancels [hKernelIdeal : Cert.KernelIdeal.Facts] [hReferenceIdeal : Cert.ReferenceIdeal.Facts] [hPre_cancels : Cert.Pre_cancels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cancels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_cancels : Cert.Pre_cancels.Facts),
    quiescent_Kernel (hKernel := hKernel)
    ∧ quiescent_KernelIdeal (hKernelIdeal := hKernelIdeal)
    ∧ quiescent_KernelIdeal_pre_cancels (hKernelIdeal := hKernelIdeal) (hPre_cancels := hPre_cancels)
    ∧ quiescent_ReferenceIdeal (hReferenceIdeal := hReferenceIdeal)
    ∧ quiescent_ReferenceIdeal_pre_cancels (hReferenceIdeal := hReferenceIdeal) (hPre_cancels := hPre_cancels)
    ∧ preserves_Kernel_KernelIdeal
    ∧ algebraic_KernelIdeal_ReferenceIdeal_pre_cancels (hKernelIdeal := hKernelIdeal) (hReferenceIdeal := hReferenceIdeal) (hPre_cancels := hPre_cancels)
-- ==== Pre_cancels.lean ====
abbrev S1x65536x51 : Shape := ⟨3, ![1, 65536, 51]⟩
abbrev S3x102x128 : Shape := ⟨3, ![3, 102, 128]⟩
abbrev S128 : Shape := ⟨1, ![128]⟩
abbrev S5x230x128 : Shape := ⟨3, ![5, 230, 128]⟩
abbrev S230x2 : Shape := ⟨2, ![230, 2]⟩
abbrev S2 : Shape := ⟨1, ![2]⟩
abbrev S_ : Shape := ⟨0, ![]⟩
abbrev S3x51x128 : Shape := ⟨3, ![3, 51, 128]⟩
abbrev S5x51x128 : Shape := ⟨3, ![5, 51, 128]⟩
abbrev S51x2 : Shape := ⟨2, ![51, 2]⟩

class Facts : Prop where
  bcast_S_S1x65536x51 : S_.BroadcastsInDim S1x65536x51 (![] : Fin 0 → Fin S1x65536x51.rank)
  slices_S3x102x128_S3x51x128_0_0_0 : S3x102x128.Slices ![0, 0, 0] S3x51x128
  bcast_S_S3x51x128 : S_.BroadcastsInDim S3x51x128 (![] : Fin 0 → Fin S3x51x128.rank)
  slices_S5x230x128_S5x51x128_0_0_0 : S5x230x128.Slices ![0, 0, 0] S5x51x128
  bcast_S_S5x51x128 : S_.BroadcastsInDim S5x51x128 (![] : Fin 0 → Fin S5x51x128.rank)
  slices_S230x2_S51x2_0_0 : S230x2.Slices ![0, 0] S51x2
  bcast_S_S51x2 : S_.BroadcastsInDim S51x2 (![] : Fin 0 → Fin S51x2.rank)

variable [Facts]

def fn {F : FTy → Type} [FloatOps F] (main_arg0 : FVec F S1x65536x51 .f32) (main_arg1 : FVec F S3x102x128 .f32) (main_arg2 : FVec F S128 .f32) (main_arg3 : FVec F S5x230x128 .f32) (main_arg4 : FVec F S128 .f32) (main_arg5 : FVec F S230x2 .f32) (main_arg6 : FVec F S2 .f32) : IVec S1x65536x51 1 × IVec S3x51x128 1 × IVec S5x51x128 1 × IVec S51x2 1 :=
  let main_cst : FVec F S_ .f32 := constant S_ .f32 0x7F800000#32
  let main_v0 : FVec F S1x65536x51 .f32 := broadcastInDim S1x65536x51 ![] bcast_S_S1x65536x51 main_cst
  let main_v1 : IVec S1x65536x51 1 := cmpf .olt main_arg0 main_v0
  let main_v2 : FVec F S3x51x128 .f32 := (extractStridedSlice S3x51x128 ![0, 0, 0] · slices_S3x102x128_S3x51x128_0_0_0) main_arg1
  let main_v3 : FVec F S3x51x128 .f32 := Host.absf main_v2
  let main_cst_0 : FVec F S_ .f32 := constant S_ .f32 0x7F800000#32
  let main_v4 : FVec F S3x51x128 .f32 := broadcastInDim S3x51x128 ![] bcast_S_S3x51x128 main_cst_0
  let main_v5 : IVec S3x51x128 1 := cmpf .olt main_v3 main_v4
  let main_v6 : FVec F S5x51x128 .f32 := (extractStridedSlice S5x51x128 ![0, 0, 0] · slices_S5x230x128_S5x51x128_0_0_0) main_arg3
  let main_v7 : FVec F S5x51x128 .f32 := Host.absf main_v6
  let main_cst_1 : FVec F S_ .f32 := constant S_ .f32 0x7F800000#32
  let main_v8 : FVec F S5x51x128 .f32 := broadcastInDim S5x51x128 ![] bcast_S_S5x51x128 main_cst_1
  let main_v9 : IVec S5x51x128 1 := cmpf .olt main_v7 main_v8
  let main_v10 : FVec F S51x2 .f32 := (extractStridedSlice S51x2 ![0, 0] · slices_S230x2_S51x2_0_0) main_arg5
  let main_v11 : FVec F S51x2 .f32 := Host.absf main_v10
  let main_cst_2 : FVec F S_ .f32 := constant S_ .f32 0x7F800000#32
  let main_v12 : FVec F S51x2 .f32 := broadcastInDim S51x2 ![] bcast_S_S51x2 main_cst_2
  let main_v13 : IVec S51x2 1 := cmpf .olt main_v11 main_v12
  (main_v1, main_v5, main_v9, main_v13)
-- ==== Kernel.lean ====
abbrev S1x65536x51 : Shape := ⟨3, ![1, 65536, 51]⟩
abbrev S3x102x128 : Shape := ⟨3, ![3, 102, 128]⟩
abbrev S128 : Shape := ⟨1, ![128]⟩
abbrev S5x230x128 : Shape := ⟨3, ![5, 230, 128]⟩
abbrev S230x2 : Shape := ⟨2, ![230, 2]⟩
abbrev S2 : Shape := ⟨1, ![2]⟩
abbrev S65536x51 : Shape := ⟨2, ![65536, 51]⟩
abbrev S3x51x128 : Shape := ⟨3, ![3, 51, 128]⟩
abbrev S_ : Shape := ⟨0, ![]⟩
abbrev S1 : Shape := ⟨1, ![1]⟩
abbrev S5x51x128 : Shape := ⟨3, ![5, 51, 128]⟩
abbrev S51x2 : Shape := ⟨2, ![51, 2]⟩
abbrev S65536x1 : Shape := ⟨2, ![65536, 1]⟩
abbrev S65536x12 : Shape := ⟨2, ![65536, 12]⟩
abbrev S65536x64 : Shape := ⟨2, ![65536, 64]⟩
abbrev S32768x128 : Shape := ⟨2, ![32768, 128]⟩
abbrev S3x64x128 : Shape := ⟨3, ![3, 64, 128]⟩
abbrev S64x128 : Shape := ⟨2, ![64, 128]⟩
abbrev S1x64x128 : Shape := ⟨3, ![1, 64, 128]⟩
abbrev S256x128 : Shape := ⟨2, ![256, 128]⟩
abbrev S256x256 : Shape := ⟨2, ![256, 256]⟩
abbrev S768x256 : Shape := ⟨2, ![768, 256]⟩
abbrev S5x64x128 : Shape := ⟨3, ![5, 64, 128]⟩
abbrev S5x128x128 : Shape := ⟨3, ![5, 128, 128]⟩
abbrev S128x128 : Shape := ⟨2, ![128, 128]⟩
abbrev S1x128x128 : Shape := ⟨3, ![1, 128, 128]⟩
abbrev S1536x256 : Shape := ⟨2, ![1536, 256]⟩
abbrev S64x2 : Shape := ⟨2, ![64, 2]⟩
abbrev S128x2 : Shape := ⟨2, ![128, 2]⟩
abbrev S512x2 : Shape := ⟨2, ![512, 2]⟩
abbrev S512x4 : Shape := ⟨2, ![512, 4]⟩
abbrev S32768x4 : Shape := ⟨2, ![32768, 4]⟩
abbrev S4096x128 : Shape := ⟨2, ![4096, 128]⟩
abbrev S4096x4 : Shape := ⟨2, ![4096, 4]⟩
abbrev S2x128 : Shape := ⟨2, ![2, 128]⟩
abbrev S4100x128 : Shape := ⟨2, ![4100, 128]⟩
abbrev S4100x1 : Shape := ⟨2, ![4100, 1]⟩
abbrev S4100x256 : Shape := ⟨2, ![4100, 256]⟩
abbrev S4098x256 : Shape := ⟨2, ![4098, 256]⟩
abbrev S4098x1 : Shape := ⟨2, ![4098, 1]⟩
abbrev S4096x256 : Shape := ⟨2, ![4096, 256]⟩
abbrev S256x4 : Shape := ⟨2, ![256, 4]⟩
abbrev S65536x2 : Shape := ⟨2, ![65536, 2]⟩
abbrev S1x65536x2 : Shape := ⟨3, ![1, 65536, 2]⟩

abbrev nBuf : Space → Nat
  | .hbm => 208
  | .vmem => 11
  | .smem => 0
  | _ => 0

abbrev hbmTy0_0 (i : Nat) : BufTy := match i % 128 with
  | 0 => ⟨S1x65536x51, .f32⟩
  | 1 => ⟨S3x102x128, .f32⟩
  | 2 => ⟨S128, .f32⟩
  | 3 => ⟨S5x230x128, .f32⟩
  | 4 => ⟨S128, .f32⟩
  | 5 => ⟨S230x2, .f32⟩
  | 6 => ⟨S2, .f32⟩
  | 7 => ⟨S65536x51, .f32⟩
  | 8 => ⟨S3x51x128, .f32⟩
  | 9 => ⟨S3x51x128, .f32⟩
  | 10 => ⟨S_, .i32⟩
  | 11 => ⟨S1, .i32⟩
  | 12 => ⟨S3x102x128, .f32⟩
  | 13 => ⟨S5x51x128, .f32⟩
  | 14 => ⟨S5x51x128, .f32⟩
  | 15 => ⟨S_, .i32⟩
  | 16 => ⟨S1, .i32⟩
  | 17 => ⟨S5x230x128, .f32⟩
  | 18 => ⟨S51x2, .f32⟩
  | 19 => ⟨S51x2, .f32⟩
  | 20 => ⟨S_, .i32⟩
  | 21 => ⟨S1, .i32⟩
  | 22 => ⟨S230x2, .f32⟩
  | 23 => ⟨S65536x51, .bf16⟩
  | 24 => ⟨S_, .bf16⟩
  | 25 => ⟨S65536x1, .bf16⟩
  | 26 => ⟨S_, .bf16⟩
  | 27 => ⟨S65536x12, .bf16⟩
  | 28 => ⟨S65536x64, .bf16⟩
  | 29 => ⟨S32768x128, .bf16⟩
  | 30 => ⟨S3x51x128, .f32⟩
  | 31 => ⟨S_, .i32⟩
  | 32 => ⟨S_, .f32⟩
  | 33 => ⟨S3x64x128, .f32⟩
  | 34 => ⟨S3x51x128, .f32⟩
  | 35 => ⟨S_, .i32⟩
  | 36 => ⟨S_, .f32⟩
  | 37 => ⟨S3x64x128, .f32⟩
  | 38 => ⟨S_, .f32⟩
  | 39 => ⟨S64x128, .f32⟩
  | 40 => ⟨S1x64x128, .f32⟩
  | 41 => ⟨S64x128, .f32⟩
  | 42 => ⟨S1x64x128, .f32⟩
  | 43 => ⟨S64x128, .f32⟩
  | 44 => ⟨S256x128, .f32⟩
  | 45 => ⟨S256x128, .f32⟩
  | 46 => ⟨S256x256, .f32⟩
  | 47 => ⟨S1x64x128, .f32⟩
  | 48 => ⟨S64x128, .f32⟩
  | 49 => ⟨S_, .i32⟩
  | 50 => ⟨S1, .i32⟩
  | 51 => ⟨S64x128, .f32⟩
  | 52 => ⟨S1x64x128, .f32⟩
  | 53 => ⟨S64x128, .f32⟩
  | 54 => ⟨S1x64x128, .f32⟩
  | 55 => ⟨S64x128, .f32⟩
  | 56 => ⟨S1x64x128, .f32⟩
  | 57 => ⟨S64x128, .f32⟩
  | 58 => ⟨S256x128, .f32⟩
  | 59 => ⟨S1x64x128, .f32⟩
  | 60 => ⟨S64x128, .f32⟩
  | 61 => ⟨S1x64x128, .f32⟩
  | 62 => ⟨S64x128, .f32⟩
  | 63 => ⟨S_, .i32⟩
  | 64 => ⟨S1, .i32⟩
  | 65 => ⟨S64x128, .f32⟩
  | 66 => ⟨S1x64x128, .f32⟩
  | 67 => ⟨S64x128, .f32⟩
  | 68 => ⟨S1x64x128, .f32⟩
  | 69 => ⟨S64x128, .f32⟩
  | 70 => ⟨S256x128, .f32⟩
  | 71 => ⟨S256x256, .f32⟩
  | 72 => ⟨S256x128, .f32⟩
  | 73 => ⟨S1x64x128, .f32⟩
  | 74 => ⟨S64x128, .f32⟩
  | 75 => ⟨S1x64x128, .f32⟩
  | 76 => ⟨S64x128, .f32⟩
  | 77 => ⟨S256x128, .f32⟩
  | 78 => ⟨S256x256, .f32⟩
  | 79 => ⟨S768x256, .f32⟩
  | 80 => ⟨S768x256, .bf16⟩
  | 81 => ⟨S5x51x128, .f32⟩
  | 82 => ⟨S_, .i32⟩
  | 83 => ⟨S_, .f32⟩
  | 84 => ⟨S5x64x128, .f32⟩
  | 85 => ⟨S5x51x128, .f32⟩
  | 86 => ⟨S_, .i32⟩
  | 87 => ⟨S_, .f32⟩
  | 88 => ⟨S5x64x128, .f32⟩
  | 89 => ⟨S_, .f32⟩
  | 90 => ⟨S64x128, .f32⟩
  | 91 => ⟨S1x64x128, .f32⟩
  | 92 => ⟨S64x128, .f32⟩
  | 93 => ⟨S1x64x128, .f32⟩
  | 94 => ⟨S64x128, .f32⟩
  | 95 => ⟨S1x64x128, .f32⟩
  | 96 => ⟨S64x128, .f32⟩
  | 97 => ⟨S1x64x128, .f32⟩
  | 98 => ⟨S64x128, .f32⟩
  | 99 => ⟨S256x128, .f32⟩
  | 100 => ⟨S1x64x128, .f32⟩
  | 101 => ⟨S64x128, .f32⟩
  | 102 => ⟨S1x64x128, .f32⟩
  | 103 => ⟨S64x128, .f32⟩
  | 104 => ⟨S256x128, .f32⟩
  | 105 => ⟨S256x256, .f32⟩
  | 106 => ⟨S1x64x128, .f32⟩
  | 107 => ⟨S64x128, .f32⟩
  | 108 => ⟨S_, .i32⟩
  | 109 => ⟨S1, .i32⟩
  | 110 => ⟨S64x128, .f32⟩
  | 111 => ⟨S1x64x128, .f32⟩
  | 112 => ⟨S64x128, .f32⟩
  | 113 => ⟨S1x64x128, .f32⟩
  | 114 => ⟨S64x128, .f32⟩
  | 115 => ⟨S1x64x128, .f32⟩
  | 116 => ⟨S64x128, .f32⟩
  | 117 => ⟨S256x128, .f32⟩
  | 118 => ⟨S1x64x128, .f32⟩
  | 119 => ⟨S64x128, .f32⟩
  | 120 => ⟨S1x64x128, .f32⟩
  | 121 => ⟨S64x128, .f32⟩
  | 122 => ⟨S_, .i32⟩
  | 123 => ⟨S1, .i32⟩
  | 124 => ⟨S64x128, .f32⟩
  | 125 => ⟨S1x64x128, .f32⟩
  | 126 => ⟨S64x128, .f32⟩
  | 127 => ⟨S1x64x128, .f32⟩
  | _ => ⟨S1x65536x51, .f32⟩

abbrev hbmTy0_1 (i : Nat) : BufTy := match i % 128 with
  | 0 => ⟨S64x128, .f32⟩
  | 1 => ⟨S256x128, .f32⟩
  | 2 => ⟨S256x256, .f32⟩
  | 3 => ⟨S1x64x128, .f32⟩
  | 4 => ⟨S64x128, .f32⟩
  | 5 => ⟨S1x64x128, .f32⟩
  | 6 => ⟨S64x128, .f32⟩
  | 7 => ⟨S256x128, .f32⟩
  | 8 => ⟨S1x64x128, .f32⟩
  | 9 => ⟨S64x128, .f32⟩
  | 10 => ⟨S1x64x128, .f32⟩
  | 11 => ⟨S64x128, .f32⟩
  | 12 => ⟨S1x64x128, .f32⟩
  | 13 => ⟨S64x128, .f32⟩
  | 14 => ⟨S1x64x128, .f32⟩
  | 15 => ⟨S64x128, .f32⟩
  | 16 => ⟨S256x128, .f32⟩
  | 17 => ⟨S256x256, .f32⟩
  | 18 => ⟨S768x256, .f32⟩
  | 19 => ⟨S5x128x128, .f32⟩
  | 20 => ⟨S_, .f32⟩
  | 21 => ⟨S128x128, .f32⟩
  | 22 => ⟨S1x128x128, .f32⟩
  | 23 => ⟨S128x128, .f32⟩
  | 24 => ⟨S1x128x128, .f32⟩
  | 25 => ⟨S128x128, .f32⟩
  | 26 => ⟨S256x128, .f32⟩
  | 27 => ⟨S1x128x128, .f32⟩
  | 28 => ⟨S128x128, .f32⟩
  | 29 => ⟨S256x128, .f32⟩
  | 30 => ⟨S256x256, .f32⟩
  | 31 => ⟨S1x128x128, .f32⟩
  | 32 => ⟨S128x128, .f32⟩
  | 33 => ⟨S1x128x128, .f32⟩
  | 34 => ⟨S128x128, .f32⟩
  | 35 => ⟨S256x128, .f32⟩
  | 36 => ⟨S1x128x128, .f32⟩
  | 37 => ⟨S128x128, .f32⟩
  | 38 => ⟨S1x128x128, .f32⟩
  | 39 => ⟨S128x128, .f32⟩
  | 40 => ⟨S256x128, .f32⟩
  | 41 => ⟨S256x256, .f32⟩
  | 42 => ⟨S1x128x128, .f32⟩
  | 43 => ⟨S128x128, .f32⟩
  | 44 => ⟨S256x128, .f32⟩
  | 45 => ⟨S1x128x128, .f32⟩
  | 46 => ⟨S128x128, .f32⟩
  | 47 => ⟨S1x128x128, .f32⟩
  | 48 => ⟨S128x128, .f32⟩
  | 49 => ⟨S256x128, .f32⟩
  | 50 => ⟨S256x256, .f32⟩
  | 51 => ⟨S768x256, .f32⟩
  | 52 => ⟨S1536x256, .f32⟩
  | 53 => ⟨S1536x256, .bf16⟩
  | 54 => ⟨S51x2, .f32⟩
  | 55 => ⟨S_, .i32⟩
  | 56 => ⟨S_, .f32⟩
  | 57 => ⟨S64x2, .f32⟩
  | 58 => ⟨S51x2, .f32⟩
  | 59 => ⟨S_, .i32⟩
  | 60 => ⟨S_, .f32⟩
  | 61 => ⟨S64x2, .f32⟩
  | 62 => ⟨S128x2, .f32⟩
  | 63 => ⟨S_, .f32⟩
  | 64 => ⟨S64x2, .f32⟩
  | 65 => ⟨S_, .f32⟩
  | 66 => ⟨S128x2, .f32⟩
  | 67 => ⟨S_, .i32⟩
  | 68 => ⟨S1, .i32⟩
  | 69 => ⟨S64x2, .f32⟩
  | 70 => ⟨S512x2, .f32⟩
  | 71 => ⟨S_, .i32⟩
  | 72 => ⟨S1, .i32⟩
  | 73 => ⟨S64x2, .f32⟩
  | 74 => ⟨S512x2, .f32⟩
  | 75 => ⟨S512x4, .f32⟩
  | 76 => ⟨S512x4, .bf16⟩
  | 77 => ⟨S32768x4, .f32⟩
  | 78 => ⟨S65536x2, .f32⟩
  | 79 => ⟨S1x65536x2, .f32⟩
  | _ => ⟨S1x65536x51, .f32⟩

abbrev hbmTy (i : Nat) : BufTy := match i / 128 with
  | 0 => hbmTy0_0 i
  | 1 => hbmTy0_1 i
  | _ => ⟨S1x65536x51, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S768x256, .bf16⟩
  | .local _ .vmem, ⟨7, _⟩ => ⟨S1536x256, .bf16⟩
  | .local _ .vmem, ⟨8, _⟩ => ⟨S512x4, .bf16⟩
  | .local _ .vmem, ⟨9, _⟩ => ⟨S4096x4, .f32⟩
  | .local _ .vmem, ⟨10, _⟩ => ⟨S4096x4, .f32⟩
  | _, _ => ⟨S1x65536x51, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call1_v0 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_call2_v0 : Ref sig .tc := ⟨.hbm, 83, rfl⟩
abbrev main_v63 : Ref sig .tc := ⟨.hbm, 84, rfl⟩
abbrev main_v64 : Ref sig .tc := ⟨.hbm, 85, rfl⟩
abbrev main_c_9 : Ref sig .tc := ⟨.hbm, 86, rfl⟩
abbrev main_call3_v0 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_11 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_c_12 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_13 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_c_14 : Ref sig .tc := ⟨.hbm, 183, rfl⟩
abbrev main_call4_v0 : Ref sig .tc := ⟨.hbm, 184, rfl⟩
abbrev main_v156 : Ref sig .tc := ⟨.hbm, 185, rfl⟩
abbrev main_v157 : Ref sig .tc := ⟨.hbm, 186, rfl⟩
abbrev main_c_15 : Ref sig .tc := ⟨.hbm, 187, rfl⟩
abbrev main_call5_v0 : Ref sig .tc := ⟨.hbm, 188, rfl⟩
abbrev main_v158 : Ref sig .tc := ⟨.hbm, 189, rfl⟩
abbrev main_v159 : Ref sig .tc := ⟨.hbm, 190, rfl⟩
abbrev main_cst_16 : Ref sig .tc := ⟨.hbm, 191, rfl⟩
abbrev main_v160 : Ref sig .tc := ⟨.hbm, 192, rfl⟩
abbrev main_cst_17 : Ref sig .tc := ⟨.hbm, 193, rfl⟩
abbrev main_v161 : Ref sig .tc := ⟨.hbm, 194, rfl⟩
abbrev main_c_18 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_c_19 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x65536x51 : Shape := ⟨3, ![1, 65536, 51]⟩
abbrev S3x102x128 : Shape := ⟨3, ![3, 102, 128]⟩
abbrev S128 : Shape := ⟨1, ![128]⟩
abbrev S5x230x128 : Shape := ⟨3, ![5, 230, 128]⟩
abbrev S230x2 : Shape := ⟨2, ![230, 2]⟩
abbrev S2 : Shape := ⟨1, ![2]⟩
abbrev S65536x51 : Shape := ⟨2, ![65536, 51]⟩
abbrev S_ : Shape := ⟨0, ![]⟩
abbrev S65536x102 : Shape := ⟨2, ![65536, 102]⟩
abbrev S65538x102 : Shape := ⟨2, ![65538, 102]⟩
abbrev S1x102x128 : Shape := ⟨3, ![1, 102, 128]⟩
abbrev S102x128 : Shape := ⟨2, ![102, 128]⟩
abbrev S65536x128 : Shape := ⟨2, ![65536, 128]⟩
abbrev S1x128 : Shape := ⟨2, ![1, 128]⟩
abbrev S65536x230 : Shape := ⟨2, ![65536, 230]⟩
abbrev S65540x230 : Shape := ⟨2, ![65540, 230]⟩
abbrev S1x230x128 : Shape := ⟨3, ![1, 230, 128]⟩
abbrev S230x128 : Shape := ⟨2, ![230, 128]⟩
abbrev S65536x2 : Shape := ⟨2, ![65536, 2]⟩
abbrev S1x2 : Shape := ⟨2, ![1, 2]⟩
abbrev S1x65536x2 : Shape := ⟨3, ![1, 65536, 2]⟩

abbrev nBuf : Space → Nat
  | .hbm => 92
  | .vmem => 0
  | .smem => 0
  | _ => 0

abbrev bufTy : (tb : Table) → Fin (tcTables nBuf tb) → BufTy
  | .hbm, ⟨0, _⟩ => ⟨S1x65536x51, .f32⟩
  | .hbm, ⟨1, _⟩ => ⟨S3x102x128, .f32⟩
  | .hbm, ⟨2, _⟩ => ⟨S128, .f32⟩
  | .hbm, ⟨3, _⟩ => ⟨S5x230x128, .f32⟩
  | .hbm, ⟨4, _⟩ => ⟨S128, .f32⟩
  | .hbm, ⟨5, _⟩ => ⟨S230x2, .f32⟩
  | .hbm, ⟨6, _⟩ => ⟨S2, .f32⟩
  | .hbm, ⟨7, _⟩ => ⟨S65536x51, .f32⟩
  | .hbm, ⟨8, _⟩ => ⟨S_, .f32⟩
  | .hbm, ⟨9, _⟩ => ⟨S65536x51, .f32⟩
  | .hbm, ⟨10, _⟩ => ⟨S65536x51, .f32⟩
  | .hbm, ⟨11, _⟩ => ⟨S_, .f32⟩
  | .hbm, ⟨12, _⟩ => ⟨S65536x51, .f32⟩
  | .hbm, ⟨13, _⟩ => ⟨S65536x51, .f32⟩
  | .hbm, ⟨14, _⟩ => ⟨S65536x102, .f32⟩
  | .hbm, ⟨15, _⟩ => ⟨S_, .i32⟩
  | .hbm, ⟨16, _⟩ => ⟨S_, .f32⟩
  | .hbm, ⟨17, _⟩ => ⟨S65538x102, .f32⟩
  | .hbm, ⟨18, _⟩ => ⟨S65536x102, .f32⟩
  | .hbm, ⟨19, _⟩ => ⟨S1x102x128, .f32⟩
  | .hbm, ⟨20, _⟩ => ⟨S102x128, .f32⟩
  | .hbm, ⟨21, _⟩ => ⟨S65536x128, .f32⟩
  | .hbm, ⟨22, _⟩ => ⟨S65536x102, .f32⟩
  | .hbm, ⟨23, _⟩ => ⟨S1x102x128, .f32⟩
  | .hbm, ⟨24, _⟩ => ⟨S102x128, .f32⟩
  | .hbm, ⟨25, _⟩ => ⟨S65536x128, .f32⟩
  | .hbm, ⟨26, _⟩ => ⟨S65536x128, .f32⟩
  | .hbm, ⟨27, _⟩ => ⟨S65536x102, .f32⟩
  | .hbm, ⟨28, _⟩ => ⟨S1x102x128, .f32⟩
  | .hbm, ⟨29, _⟩ => ⟨S102x128, .f32⟩
  | .hbm, ⟨30, _⟩ => ⟨S65536x128, .f32⟩
  | .hbm, ⟨31, _⟩ => ⟨S65536x128, .f32⟩
  | .hbm, ⟨32, _⟩ => ⟨S1x128, .f32⟩
  | .hbm, ⟨33, _⟩ => ⟨S65536x128, .f32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S65536x230, .f32⟩
  | .hbm, ⟨39, _⟩ => ⟨S_, .i32⟩
  | .hbm, ⟨40, _⟩ => ⟨S_, .f32⟩
  | .hbm, ⟨41, _⟩ => ⟨S65540x230, .f32⟩
  | .hbm, ⟨42, _⟩ => ⟨S65536x230, .f32⟩
  | .hbm, ⟨43, _⟩ => ⟨S1x230x128, .f32⟩
  | .hbm, ⟨44, _⟩ => ⟨S230x128, .f32⟩
  | .hbm, ⟨45, _⟩ => ⟨S65536x128, .f32⟩
  | .hbm, ⟨46, _⟩ => ⟨S65536x230, .f32⟩
  | .hbm, ⟨47, _⟩ => ⟨S1x230x128, .f32⟩
  | .hbm, ⟨48, _⟩ => ⟨S230x128, .f32⟩
  | .hbm, ⟨49, _⟩ => ⟨S65536x128, .f32⟩
  | .hbm, ⟨50, _⟩ => ⟨S65536x128, .f32⟩
  | .hbm, ⟨51, _⟩ => ⟨S65536x230, .f32⟩
  | .hbm, ⟨52, _⟩ => ⟨S1x230x128, .f32⟩
  | .hbm, ⟨53, _⟩ => ⟨S230x128, .f32⟩
  | .hbm, ⟨54, _⟩ => ⟨S65536x128, .f32⟩
  | .hbm, ⟨55, _⟩ => ⟨S65536x128, .f32⟩
  | .hbm, ⟨56, _⟩ => ⟨S65536x230, .f32⟩
  | .hbm, ⟨57, _⟩ => ⟨S1x230x128, .f32⟩
  | .hbm, ⟨58, _⟩ => ⟨S230x128, .f32⟩
  | .hbm, ⟨59, _⟩ => ⟨S65536x128, .f32⟩
  | .hbm, ⟨60, _⟩ => ⟨S65536x128, .f32⟩
  | .hbm, ⟨61, _⟩ => ⟨S65536x230, .f32⟩
  | .hbm, ⟨62, _⟩ => ⟨S1x230x128, .f32⟩
  | .hbm, ⟨63, _⟩ => ⟨S230x128, .f32⟩
  | .hbm, ⟨64, _⟩ => ⟨S65536x128, .f32⟩
  | .hbm, ⟨65, _⟩ => ⟨S65536x128, .f32⟩
  | .hbm, ⟨66, _⟩ => ⟨S1x128, .f32⟩
  | .hbm, ⟨67, _⟩ => ⟨S65536x128, .f32⟩
  | .hbm, ⟨68, _⟩ => ⟨S65536x128, .f32⟩
  | .hbm, ⟨69, _⟩ => ⟨S_, .f32⟩
  | .hbm, ⟨70, _⟩ => ⟨S65536x128, .f32⟩
  | .hbm, ⟨71, _⟩ => ⟨S65536x128, .f32⟩
  | .hbm, ⟨72, _⟩ => ⟨S65536x230, .f32⟩
  | .hbm, ⟨73, _⟩ => ⟨S65536x2, .f32⟩
  | .hbm, ⟨74, _⟩ => ⟨S1x2, .f32⟩
  | .hbm, ⟨75, _⟩ => ⟨S65536x2, .f32⟩
  | .hbm, ⟨76, _⟩ => ⟨S65536x2, .f32⟩
  | .hbm, ⟨77, _⟩ => ⟨S_, .f32⟩
  | .hbm, ⟨78, _⟩ => ⟨S65536x2, .f32⟩
  | .hbm, ⟨79, _⟩ => ⟨S65536x2, .f32⟩
  | .hbm, ⟨80, _⟩ => ⟨S65536x2, .f32⟩
  | .hbm, ⟨81, _⟩ => ⟨S65536x2, .f32⟩
  | .hbm, ⟨82, _⟩ => ⟨S65536x2, .i1⟩
  | .hbm, ⟨83, _⟩ => ⟨S65536x2, .f32⟩
  | .hbm, ⟨84, _⟩ => ⟨S65536x2, .f32⟩
  | .hbm, ⟨85, _⟩ => ⟨S65536x2, .f32⟩
  | .hbm, ⟨86, _⟩ => ⟨S65536x2, .f32⟩
  | .hbm, ⟨87, _⟩ => ⟨S65536x2, .f32⟩
  | .hbm, ⟨88, _⟩ => ⟨S65536x2, .f32⟩
  | .hbm, ⟨89, _⟩ => ⟨S65536x2, .f32⟩
  | .hbm, ⟨90, _⟩ => ⟨S65536x2, .f32⟩
  | .hbm, ⟨91, _⟩ => ⟨S1x65536x2, .f32⟩
  | _, _ => ⟨S1x65536x51, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_cst : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call3_cst : Ref sig .tc := ⟨.hbm, 69, rfl⟩
abbrev main_call3_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== Proof.Host.lean ====
/-
  The arrays the kernel's host code hands to the pallas_call, as terms over the program's arguments.

  The host code turns the three weight arrays (`turn0`, `turn1`, `turnH`: the rows of the positive part lose the rows of
  the negative part), packs two rows of the sequence into one group row of 128 channels (`packed`), and lays the taps of
  each filter out in bands, one band of 256 rows per group row a result reads (`band0`, `band1`, `bandH`). The theorems
  say that these terms are what the four input arrays of the pallas_call hold.
-/
module

public import proofs.«01_k».proof.Defs
public import proofs.«01_k».proof.Proof.Gen.KernelIdeal.Frame
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

/-- The one index word of every scatter: 51. -/
def at51 : IVec S1 32 := broadcastInDim S1 ![] bcast_S_S1 (constantI S_ 32 51#32)

/-- The value every pad writes: zero. -/
def padZero : FVec Ideal S_ .f32 := sitofp .f32 (constantI S_ 32 0#32)

/-- The first filter with its first 51 rows taken off the 51 after them. -/
def turn0 (W : FVec Ideal S3x102x128 .f32) : FVec Ideal S3x102x128 .f32 :=
  Host.scatter scatter_S3x102x128_S1_S3x51x128_012_n_1_0 FloatOps.addf W at51
    (Host.negf (extractStridedSlice S3x51x128 ![0, 0, 0] W slices_S3x102x128_S3x51x128_0_0_0))

/-- The second filter with its first 51 rows taken off the 51 after them. -/
def turn1 (W : FVec Ideal S5x230x128 .f32) : FVec Ideal S5x230x128 .f32 :=
  Host.scatter scatter_S5x230x128_S1_S5x51x128_012_n_1_0 FloatOps.addf W at51
    (Host.negf (extractStridedSlice S5x51x128 ![0, 0, 0] W slices_S5x230x128_S5x51x128_0_0_0))

/-- The head with its first 51 rows taken off the 51 after them. -/
def turnH (W : FVec Ideal S230x2 .f32) : FVec Ideal S230x2 .f32 :=
  Host.scatter scatter_S230x2_S1_S51x2_01_n_0_0 FloatOps.addf W at51
    (Host.negf (extractStridedSlice S51x2 ![0, 0] W slices_S230x2_S51x2_0_0))

/-! ### Rows 0 to 50 and rows 51 to 101 of each, padded to 64 rows -/

/-- Rows 0 to 50 of the first filter's taps, padded to 64. -/
def neg0 (W : FVec Ideal S3x102x128 .f32) : FVec Ideal S3x64x128 .f32 :=
  pad S3x64x128 ![0, 0, 0] ![0, 13, 0] ![0, 0, 0]
    (extractStridedSlice S3x51x128 ![0, 0, 0] (turn0 W) slices_S3x102x128_S3x51x128_0_0_0) padZero
    pads_S3x51x128_S3x64x128_000_0130_000 h_S_

/-- Rows 51 to 101 of the first filter's taps, padded to 64. -/
def pos0 (W : FVec Ideal S3x102x128 .f32) : FVec Ideal S3x64x128 .f32 :=
  pad S3x64x128 ![0, 0, 0] ![0, 13, 0] ![0, 0, 0]
    (extractStridedSlice S3x51x128 ![0, 51, 0] (turn0 W) slices_S3x102x128_S3x51x128_0_51_0) padZero
    pads_S3x51x128_S3x64x128_000_0130_000 h_S_

/-- Rows 0 to 50 of the second filter's taps, padded to 64. -/
def neg1 (W : FVec Ideal S5x230x128 .f32) : FVec Ideal S5x64x128 .f32 :=
  pad S5x64x128 ![0, 0, 0] ![0, 13, 0] ![0, 0, 0]
    (extractStridedSlice S5x51x128 ![0, 0, 0] (turn1 W) slices_S5x230x128_S5x51x128_0_0_0) padZero
    pads_S5x51x128_S5x64x128_000_0130_000 h_S_

/-- Rows 51 to 101 of the second filter's taps, padded to 64. -/
def pos1 (W : FVec Ideal S5x230x128 .f32) : FVec Ideal S5x64x128 .f32 :=
  pad S5x64x128 ![0, 0, 0] ![0, 13, 0] ![0, 0, 0]
    (extractStridedSlice S5x51x128 ![0, 51, 0] (turn1 W) slices_S5x230x128_S5x51x128_0_51_0) padZero
    pads_S5x51x128_S5x64x128_000_0130_000 h_S_

/-- The rows of the second filter's taps from 102 on. -/
def own1 (W : FVec Ideal S5x230x128 .f32) : FVec Ideal S5x128x128 .f32 :=
  extractStridedSlice S5x128x128 ![0, 102, 0] (turn1 W) slices_S5x230x128_S5x128x128_0_102_0

/-- Rows 0 to 50 of the head, padded to 64. -/
def negH (W : FVec Ideal S230x2 .f32) : FVec Ideal S64x2 .f32 :=
  pad S64x2 ![0, 0] ![13, 0] ![0, 0] (extractStridedSlice S51x2 ![0, 0] (turnH W) slices_S230x2_S51x2_0_0) padZero
    pads_S51x2_S64x2_0130_000 h_S_

/-- Rows 51 to 101 of the head, padded to 64. -/
def posH (W : FVec Ideal S230x2 .f32) : FVec Ideal S64x2 .f32 :=
  pad S64x2 ![0, 0] ![13, 0] ![0, 0] (extractStridedSlice S51x2 ![51, 0] (turnH W) slices_S230x2_S51x2_51_0) padZero
    pads_S51x2_S64x2_0130_000 h_S_

/-- The rows of the head from 102 on. -/
def ownH (W : FVec Ideal S230x2 .f32) : FVec Ideal S128x2 .f32 :=
  extractStridedSlice S128x2 ![102, 0] (turnH W) slices_S230x2_S128x2_102_0

/-! ### One tap of a stack -/

/-- Tap 0 of three. -/
def tap3_0 (P : FVec Ideal S3x64x128 .f32) : FVec Ideal S64x128 .f32 :=
  shapeCast S64x128 (extractStridedSlice S1x64x128 ![0, 0, 0] P slices_S3x64x128_S1x64x128_0_0_0) shapeCasts_S1x64x128_S64x128
/-- Tap 1 of three. -/
def tap3_1 (P : FVec Ideal S3x64x128 .f32) : FVec Ideal S64x128 .f32 :=
  shapeCast S64x128 (extractStridedSlice S1x64x128 ![1, 0, 0] P slices_S3x64x128_S1x64x128_1_0_0) shapeCasts_S1x64x128_S64x128
/-- Tap 2 of three. -/
def tap3_2 (P : FVec Ideal S3x64x128 .f32) : FVec Ideal S64x128 .f32 :=
  shapeCast S64x128 (extractStridedSlice S1x64x128 ![2, 0, 0] P slices_S3x64x128_S1x64x128_2_0_0) shapeCasts_S1x64x128_S64x128
/-- Tap 0 of five. -/
def tap5_0 (P : FVec Ideal S5x64x128 .f32) : FVec Ideal S64x128 .f32 :=
  shapeCast S64x128 (extractStridedSlice S1x64x128 ![0, 0, 0] P slices_S5x64x128_S1x64x128_0_0_0) shapeCasts_S1x64x128_S64x128
/-- Tap 1 of five. -/
def tap5_1 (P : FVec Ideal S5x64x128 .f32) : FVec Ideal S64x128 .f32 :=
  shapeCast S64x128 (extractStridedSlice S1x64x128 ![1, 0, 0] P slices_S5x64x128_S1x64x128_1_0_0) shapeCasts_S1x64x128_S64x128
/-- Tap 2 of five. -/
def tap5_2 (P : FVec Ideal S5x64x128 .f32) : FVec Ideal S64x128 .f32 :=
  shapeCast S64x128 (extractStridedSlice S1x64x128 ![2, 0, 0] P slices_S5x64x128_S1x64x128_2_0_0) shapeCasts_S1x64x128_S64x128
/-- Tap 3 of five. -/
def tap5_3 (P : FVec Ideal S5x64x128 .f32) : FVec Ideal S64x128 .f32 :=
  shapeCast S64x128 (extractStridedSlice S1x64x128 ![3, 0, 0] P slices_S5x64x128_S1x64x128_3_0_0) shapeCasts_S1x64x128_S64x128
/-- Tap 4 of five. -/
def tap5_4 (P : FVec Ideal S5x64x128 .f32) : FVec Ideal S64x128 .f32 :=
  shapeCast S64x128 (extractStridedSlice S1x64x128 ![4, 0, 0] P slices_S5x64x128_S1x64x128_4_0_0) shapeCasts_S1x64x128_S64x128
/-- Tap 0 of five, of the layer's own channels. -/
def own5_0 (P : FVec Ideal S5x128x128 .f32) : FVec Ideal S128x128 .f32 :=
  shapeCast S128x128 (extractStridedSlice S1x128x128 ![0, 0, 0] P slices_S5x128x128_S1x128x128_0_0_0) shapeCasts_S1x128x128_S128x128
/-- Tap 1 of five, of the layer's own channels. -/
def own5_1 (P : FVec Ideal S5x128x128 .f32) : FVec Ideal S128x128 .f32 :=
  shapeCast S128x128 (extractStridedSlice S1x128x128 ![1, 0, 0] P slices_S5x128x128_S1x128x128_1_0_0) shapeCasts_S1x128x128_S128x128
/-- Tap 2 of five, of the layer's own channels. -/
def own5_2 (P : FVec Ideal S5x128x128 .f32) : FVec Ideal S128x128 .f32 :=
  shapeCast S128x128 (extractStridedSlice S1x128x128 ![2, 0, 0] P slices_S5x128x128_S1x128x128_2_0_0) shapeCasts_S1x128x128_S128x128
/-- Tap 3 of five, of the layer's own channels. -/
def own5_3 (P : FVec Ideal S5x128x128 .f32) : FVec Ideal S128x128 .f32 :=
  shapeCast S128x128 (extractStridedSlice S1x128x128 ![3, 0, 0] P slices_S5x128x128_S1x128x128_3_0_0) shapeCasts_S1x128x128_S128x128
/-- Tap 4 of five, of the layer's own channels. -/
def own5_4 (P : FVec Ideal S5x128x128 .f32) : FVec Ideal S128x128 .f32 :=
  shapeCast S128x128 (extractStridedSlice S1x128x128 ![4, 0, 0] P slices_S5x128x128_S1x128x128_4_0_0) shapeCasts_S1x128x128_S128x128

/-! ### Bands -/

/-- 64 rows of zeros. -/
def none64 : FVec Ideal S64x128 .f32 := broadcastInDim S64x128 ![] bcast_S_S64x128 (constant S_ .f32 0x00000000#32)
/-- 128 rows of zeros. -/
def none128 : FVec Ideal S128x128 .f32 := broadcastInDim S128x128 ![] bcast_S_S128x128 (constant S_ .f32 0x00000000#32)
/-- 64 rows of zeros, two columns. -/
def noneH64 : FVec Ideal S64x2 .f32 := broadcastInDim S64x2 ![] bcast_S_S64x2 (constant S_ .f32 0x00000000#32)
/-- 128 rows of zeros, two columns. -/
def noneH128 : FVec Ideal S128x2 .f32 := broadcastInDim S128x2 ![] bcast_S_S128x2 (constant S_ .f32 0x00000000#32)

/-- A tap with the bias on row 51. -/
def bias (n : FVec Ideal S64x128 .f32) (b : FVec Ideal S128 .f32) : FVec Ideal S64x128 .f32 :=
  Host.scatter scatter_S64x128_S1_S128_0_0_0_0 (fun _ v => v) n at51 b
/-- The head with the bias on row 51. -/
def biasH (n : FVec Ideal S64x2 .f32) (b : FVec Ideal S2 .f32) : FVec Ideal S64x2 .f32 :=
  Host.scatter scatter_S64x2_S1_S2_0_0_0_0 (fun _ v => v) n at51 b

/-- Four runs of 64 rows, one over the other. -/
def rows4 (A B C D : FVec Ideal S64x128 .f32) : FVec Ideal S256x128 .f32 :=
  concatenate S256x128 0 [⟨S64x128, A⟩, ⟨S64x128, B⟩, ⟨S64x128, C⟩, ⟨S64x128, D⟩] concatenates_S64x128_S64x128_S64x128_S64x128_S256x128_d0
/-- Two runs of 128 rows, one over the other. -/
def rows2 (A B : FVec Ideal S128x128 .f32) : FVec Ideal S256x128 .f32 :=
  concatenate S256x128 0 [⟨S128x128, A⟩, ⟨S128x128, B⟩] concatenates_S128x128_S128x128_S256x128_d0
/-- The columns of a group's first row beside those of its second. -/
def cols2 (A B : FVec Ideal S256x128 .f32) : FVec Ideal S256x256 .f32 :=
  concatenate S256x256 1 [⟨S256x128, A⟩, ⟨S256x128, B⟩] concatenates_S256x128_S256x128_S256x256_d1
/-- Three bands, one over the other. -/
def rows3 (A B C : FVec Ideal S256x256 .f32) : FVec Ideal S768x256 .f32 :=
  concatenate S768x256 0 [⟨S256x256, A⟩, ⟨S256x256, B⟩, ⟨S256x256, C⟩] concatenates_S256x256_S256x256_S256x256_S768x256_d0

/-- The first filter's three bands. -/
def band0 (W : FVec Ideal S3x102x128 .f32) (b : FVec Ideal S128 .f32) : FVec Ideal S768x256 .bf16 :=
  truncf .bf16 (rows3
    (cols2 (rows4 none64 (tap3_0 (neg0 W)) none64 (tap3_0 (pos0 W)))
      (rows4 none64 none64 none64 none64))
    (cols2 (rows4 (bias (tap3_1 (neg0 W)) b) (tap3_2 (neg0 W)) (tap3_1 (pos0 W)) (tap3_2 (pos0 W)))
      (rows4 (tap3_0 (neg0 W)) (bias (tap3_1 (neg0 W)) b) (tap3_0 (pos0 W)) (tap3_1 (pos0 W))))
    (cols2 (rows4 none64 none64 none64 none64)
      (rows4 (tap3_2 (neg0 W)) none64 (tap3_2 (pos0 W)) none64))) bitsLt_bf16_f32

/-- The second filter's three bands on the input channels. -/
def band1x (W : FVec Ideal S5x230x128 .f32) (b : FVec Ideal S128 .f32) : FVec Ideal S768x256 .f32 :=
  rows3
    (cols2 (rows4 (tap5_0 (neg1 W)) (tap5_1 (neg1 W)) (tap5_0 (pos1 W)) (tap5_1 (pos1 W)))
      (rows4 none64 (tap5_0 (neg1 W)) none64 (tap5_0 (pos1 W))))
    (cols2 (rows4 (bias (tap5_2 (neg1 W)) b) (tap5_3 (neg1 W)) (tap5_2 (pos1 W)) (tap5_3 (pos1 W)))
      (rows4 (tap5_1 (neg1 W)) (bias (tap5_2 (neg1 W)) b) (tap5_1 (pos1 W)) (tap5_2 (pos1 W))))
    (cols2 (rows4 (tap5_4 (neg1 W)) none64 (tap5_4 (pos1 W)) none64)
      (rows4 (tap5_3 (neg1 W)) (tap5_4 (neg1 W)) (tap5_3 (pos1 W)) (tap5_4 (pos1 W))))

/-- The second filter's three bands on the first layer's channels. -/
def band1y (W : FVec Ideal S5x230x128 .f32) : FVec Ideal S768x256 .f32 :=
  rows3
    (cols2 (rows2 (own5_0 (own1 W)) (own5_1 (own1 W))) (rows2 none128 (own5_0 (own1 W))))
    (cols2 (rows2 (own5_2 (own1 W)) (own5_3 (own1 W))) (rows2 (own5_1 (own1 W)) (own5_2 (own1 W))))
    (cols2 (rows2 (own5_4 (own1 W)) none128) (rows2 (own5_3 (own1 W)) (own5_4 (own1 W))))

/-- The second filter's six bands. -/
def band1 (W : FVec Ideal S5x230x128 .f32) (b : FVec Ideal S128 .f32) : FVec Ideal S1536x256 .bf16 :=
  truncf .bf16 (concatenate S1536x256 0 [⟨S768x256, band1x W b⟩, ⟨S768x256, band1y W⟩] concatenates_S768x256_S768x256_S1536x256_d0)
    bitsLt_bf16_f32

/-- Six runs of rows of the head, one over the other. -/
def rows6 (A B C D : FVec Ideal S64x2 .f32) (E F : FVec Ideal S128x2 .f32) : FVec Ideal S512x2 .f32 :=
  concatenate S512x2 0 [⟨S64x2, A⟩, ⟨S64x2, B⟩, ⟨S64x2, C⟩, ⟨S64x2, D⟩, ⟨S128x2, E⟩, ⟨S128x2, F⟩]
    concatenates_S64x2_S64x2_S64x2_S64x2_S128x2_S128x2_S512x2_d0

/-- The head's two bands. -/
def bandH (W : FVec Ideal S230x2 .f32) (b : FVec Ideal S2 .f32) : FVec Ideal S512x4 .bf16 :=
  truncf .bf16 (concatenate S512x4 1
    [⟨S512x2, rows6 (biasH (negH W) b) noneH64 (posH W) noneH64 (ownH W) noneH128⟩,
      ⟨S512x2, rows6 noneH64 (biasH (negH W) b) noneH64 (posH W) noneH128 (ownH W)⟩]
    concatenates_S512x2_S512x2_S512x4_d1) bitsLt_bf16_f32

/-- The input, 51 channels, a one and twelve zeros a row, two rows to a group row. -/
def packed (x : FVec Ideal S1x65536x51 .f32) : FVec Ideal S32768x128 .bf16 :=
  shapeCast S32768x128 (concatenate S65536x64 1
    [⟨S65536x51, truncf .bf16 (shapeCast S65536x51 x shapeCasts_S1x65536x51_S65536x51) bitsLt_bf16_f32⟩,
      ⟨S65536x1, broadcastInDim S65536x1 ![] bcast_S_S65536x1 (constant S_ .bf16 0x3F80#16)⟩,
      ⟨S65536x12, broadcastInDim S65536x12 ![] bcast_S_S65536x12 (constant S_ .bf16 0x0000#16)⟩]
    concatenates_S65536x51_S65536x1_S65536x12_S65536x64_d1) shapeCasts_S65536x64_S32768x128

variable (m : (ℓ : Loc nD τ sig) → Buf (Elt Ideal) ℓ) (c : Dev nD)

/-- The pallas_call's input array holds the packed input. -/
theorem V_packed : V m c main_v17 = packed (m ((c : Thread nD τ).loc main_arg0)) := by
  unfold V V0
  after_reads_simp
  repeat (
    try dsimp only [Matrix.cons_val_zero, Matrix.cons_val_one, Matrix.cons_val]
    simp (disch := decide) only [readAfter, readUpto, ↓ readPieces, nullary_result', unary_result', binary_result', ternary_result', nary4_result', nary_result', reshape_result'])
  rfl

/-- The pallas_call's first weight array holds the first filter's bands. -/
theorem V_band0 : V m c main_v61 = band0 (m ((c : Thread nD τ).loc main_arg1)) (m ((c : Thread nD τ).loc main_arg2)) := by
  unfold V V0
  after_reads_simp
  repeat (
    try dsimp only [Matrix.cons_val_zero, Matrix.cons_val_one, Matrix.cons_val]
    simp (disch := decide) only [readAfter, readUpto, ↓ readPieces, nullary_result', unary_result', binary_result', ternary_result', nary4_result', nary_result', reshape_result'])
  unfold band0 rows3 cols2 rows4 bias tap3_0 tap3_1 tap3_2 neg0 pos0 turn0 none64 padZero at51
  dsimp only [TRef.toBuf, TRef.ofBuf, TRef.of, cast_eq]
  rfl

/-- The pallas_call's second weight array holds the second filter's bands. -/
theorem V_band1 : V m c main_v154 = band1 (m ((c : Thread nD τ).loc main_arg3)) (m ((c : Thread nD τ).loc main_arg4)) := by
  unfold V V0
  after_reads_simp
  repeat (
    try dsimp only [Matrix.cons_val_zero, Matrix.cons_val_one, Matrix.cons_val]
    simp (disch := decide) only [readAfter, readUpto, ↓ readPieces, nullary_result', unary_result', binary_result', ternary_result', nary4_result', nary_result', reshape_result'])
  unfold band1 band1x band1y rows3 cols2 rows4 rows2 bias tap5_0 tap5_1 tap5_2 tap5_3 tap5_4 own5_0 own5_1 own5_2 own5_3 own5_4 neg1 pos1 own1 turn1 none64 none128 padZero at51
  dsimp only [TRef.toBuf, TRef.ofBuf, TRef.of, cast_eq]
  rfl

/-- The pallas_call's third weight array holds the head's bands. -/
theorem V_bandH : V m c main_v169 = bandH (m ((c : Thread nD τ).loc main_arg5)) (m ((c : Thread nD τ).loc main_arg6)) := by
  unfold V V0
  after_reads_simp
  repeat (
    try dsimp only [Matrix.cons_val_zero, Matrix.cons_val_one, Matrix.cons_val]
    simp (disch := decide) only [readAfter, readUpto, ↓ readPieces, nullary_result', unary_result', binary_result', ternary_result', nary4_result', nary_result', reshape_result'])
  unfold bandH rows6 biasH negH posH ownH turnH noneH64 noneH128 padZero at51
  dsimp only [TRef.toBuf, TRef.ofBuf, TRef.of, cast_eq]

end Cert.KernelIdeal.Host
-- ==== Proof.Reader.lean ====
/-
  Arrays read at natural-number indices, and scatters of which every element is written at most once.

  `rd1`, `rd2`, `rd3` read an array at numbers, zero outside it, so that the index arithmetic of both programs is
  arithmetic of natural numbers. `scatter_once` and `scatter_miss` read a scatter, whatever its update function, at an
  element that exactly one update lands on, or none.
-/
module

public import Idealize.ShloMosaic.Lib.Pointwise
public import Idealize.ShloMosaic.Lib.Routing.OpsPair

@[expose] public section

noncomputable section

open Idealize.ShloMosaic

namespace Cert.Reader

/-- A vector at entry `i`, zero outside. -/
def rd1 {A : ℕ} (X : (⟨1, ![A]⟩ : Shape).Idx → EReal) (i : ℕ) : EReal := if h : i < A then X (ix1 ⟨i, h⟩) else 0

/-- A matrix at row `i` and column `j`, zero outside. -/
def rd2 {A B : ℕ} (X : (⟨2, ![A, B]⟩ : Shape).Idx → EReal) (i j : ℕ) : EReal :=
  if h : i < A ∧ j < B then X (ix2 ⟨i, h.1⟩ ⟨j, h.2⟩) else 0

/-- A stack of matrices at matrix `t`, row `i` and column `j`, zero outside. -/
def rd3 {A B C : ℕ} (X : (⟨3, ![A, B, C]⟩ : Shape).Idx → EReal) (t i j : ℕ) : EReal :=
  if h : t < A ∧ i < B ∧ j < C then X (ix3 ⟨t, h.1⟩ ⟨i, h.2.1⟩ ⟨j, h.2.2⟩) else 0

/-- Inside a vector, `rd1` is its entry. -/
theorem rd1_in {A : ℕ} (X : (⟨1, ![A]⟩ : Shape).Idx → EReal) (i : ℕ) (h : i < A) : rd1 X i = X (ix1 ⟨i, h⟩) := dif_pos h

/-- Inside a matrix, `rd2` is its element. -/
theorem rd2_in {A B : ℕ} (X : (⟨2, ![A, B]⟩ : Shape).Idx → EReal) (i j : ℕ) (hi : i < A) (hj : j < B) :
    rd2 X i j = X (ix2 ⟨i, hi⟩ ⟨j, hj⟩) := dif_pos ⟨hi, hj⟩

/-- Inside a stack of matrices, `rd3` is its element. -/
theorem rd3_in {A B C : ℕ} (X : (⟨3, ![A, B, C]⟩ : Shape).Idx → EReal) (t i j : ℕ) (ht : t < A) (hi : i < B) (hj : j < C) :
    rd3 X t i j = X (ix3 ⟨t, ht⟩ ⟨i, hi⟩ ⟨j, hj⟩) := dif_pos ⟨ht, hi, hj⟩

/-- The element of a vector as `rd1`. -/
theorem rd1_ix {A : ℕ} (X : (⟨1, ![A]⟩ : Shape).Idx → EReal) (a : Fin A) : X (ix1 a) = rd1 X a := (rd1_in X a a.isLt).symm

/-- The element of a matrix as `rd2`. -/
theorem rd2_ix {A B : ℕ} (X : (⟨2, ![A, B]⟩ : Shape).Idx → EReal) (a : Fin A) (b : Fin B) : X (ix2 a b) = rd2 X a b :=
  (rd2_in X a b a.isLt b.isLt).symm

/-- The element of a stack of matrices as `rd3`. -/
theorem rd3_ix {A B C : ℕ} (X : (⟨3, ![A, B, C]⟩ : Shape).Idx → EReal) (a : Fin A) (b : Fin B) (c : Fin C) :
    X (ix3 a b c) = rd3 X a b c := (rd3_in X a b c a.isLt b.isLt c.isLt).symm

/-- An element of a vector as `rd1`, at any number equal to its index. -/
theorem rd1_of {A : ℕ} (X : (⟨1, ![A]⟩ : Shape).Idx → EReal) (a : Fin A) (i : ℕ) (h : a.val = i) : X (ix1 a) = rd1 X i := by
  rw [← h]; exact rd1_ix X a

/-- An element of a matrix as `rd2`, at any numbers equal to its indices. -/
theorem rd2_of {A B : ℕ} (X : (⟨2, ![A, B]⟩ : Shape).Idx → EReal) (a : Fin A) (b : Fin B) (i j : ℕ) (hi : a.val = i)
    (hj : b.val = j) : X (ix2 a b) = rd2 X i j := by
  rw [← hi, ← hj]; exact rd2_ix X a b

/-- An element of a stack of matrices as `rd3`, at any numbers equal to its indices. -/
theorem rd3_of {A B C : ℕ} (X : (⟨3, ![A, B, C]⟩ : Shape).Idx → EReal) (a : Fin A) (b : Fin B) (c : Fin C) (t i j : ℕ)
    (ht : a.val = t) (hi : b.val = i) (hj : c.val = j) : X (ix3 a b c) = rd3 X t i j := by
  rw [← ht, ← hi, ← hj]; exact rd3_ix X a b c

section Scatter

variable {α : Type} {s si u : Shape} {w : ℕ} (d : ScatterDims s si u) (f : α → α → α) (x : s.Idx → α) (idx : IVec si w)
  (upd : u.Idx → α) (ι : s.Idx)

/-- A scatter at an element no update lands on: the operand's element. -/
theorem scatter_miss (h : ∀ k : u.Idx, d.resultIdx? k idx ≠ some ι) : Host.scatter d f x idx upd ι = x ι := by
  rw [Routing.scatter_at]
  generalize x ι = a
  induction List.finRange u.numel generalizing a with
  | nil => rfl
  | cons n l ih => rw [List.foldl_cons, if_neg (h _), ih]

/-- A scatter at an element exactly one update lands on: the update function of the operand's element and that update. -/
theorem scatter_once (k : u.Idx) (hk : d.resultIdx? k idx = some ι) (hu : ∀ k' : u.Idx, d.resultIdx? k' idx = some ι → k' = k) :
    Host.scatter d f x idx upd ι = f (x ι) (upd k) := by
  rw [Routing.scatter_at]
  have skip : ∀ (l : List (Fin u.numel)) (a : α), u.rowMajor k ∉ l →
      l.foldl (fun a n => if d.resultIdx? (u.rowMajor.symm n) idx = some ι then f a (upd (u.rowMajor.symm n)) else a) a = a := by
    intro l
    induction l with
    | nil => intro a _; rfl
    | cons n l ih =>
      intro a hl
      rw [List.mem_cons, not_or] at hl
      rw [List.foldl_cons, if_neg fun e => hl.1 (by rw [← hu _ e, Equiv.apply_symm_apply]), ih a hl.2]
  obtain ⟨l₁, l₂, e⟩ := List.append_of_mem (List.mem_finRange (u.rowMajor k))
  have hd := List.nodup_finRange u.numel
  rw [e] at hd ⊢
  rw [List.nodup_append, List.nodup_cons] at hd
  rw [List.foldl_append, skip l₁ _ fun q => hd.2.2 _ q _ List.mem_cons_self rfl, List.foldl_cons,
    Equiv.symm_apply_apply, if_pos hk, skip l₂ _ hd.2.1.1]

/-- Where the updates of a scatter of one block of rows land, in a stack of matrices: the block starts at row `o`. -/
theorem lands3 {A R U B : ℕ} {si : Shape} {w : ℕ} (d : ScatterDims ⟨3, ![A, R, B]⟩ si ⟨3, ![A, U, B]⟩) (idx : IVec si w) (o : ℕ)
    (h0 : ∀ k, d.start k idx 0 = 0) (h1 : ∀ k, d.start k idx 1 = o) (h2 : ∀ k, d.start k idx 2 = 0)
    (w0 : ∀ k, d.window k 0 = (k 0).val) (w1 : ∀ k, d.window k 1 = (k 1).val) (w2 : ∀ k, d.window k 2 = (k 2).val)
    (k : (⟨3, ![A, U, B]⟩ : Shape).Idx) (ι : (⟨3, ![A, R, B]⟩ : Shape).Idx) :
    d.resultIdx? k idx = some ι ↔ (k 0).val = (ι 0).val ∧ o + (k 1).val = (ι 1).val ∧ (k 2).val = (ι 2).val := by
  rw [Routing.resultIdx?_eq_some]
  have e0 : d.start k idx 0 + (d.window k 0 : Int) = ((ι 0).val : Int) ↔ (k 0).val = (ι 0).val := by rw [h0, w0]; omega
  have e1 : d.start k idx 1 + (d.window k 1 : Int) = ((ι 1).val : Int) ↔ o + (k 1).val = (ι 1).val := by rw [h1, w1]; omega
  have e2 : d.start k idx 2 + (d.window k 2 : Int) = ((ι 2).val : Int) ↔ (k 2).val = (ι 2).val := by rw [h2, w2]; omega
  constructor
  · exact fun h => ⟨e0.1 (h 0), e1.1 (h 1), e2.1 (h 2)⟩
  · rintro ⟨q0, q1, q2⟩ a
    match a with
    | ⟨0, _⟩ => exact e0.2 q0
    | ⟨1, _⟩ => exact e1.2 q1
    | ⟨2, _⟩ => exact e2.2 q2

/-- A scatter of one block of rows into a stack of matrices: inside the block the update function of the operand's
    element and the update's, outside it the operand's element. -/
theorem scatter_rows3 {A R U B : ℕ} {si : Shape} {w : ℕ} (d : ScatterDims ⟨3, ![A, R, B]⟩ si ⟨3, ![A, U, B]⟩)
    (f : EReal → EReal → EReal) (x : (⟨3, ![A, R, B]⟩ : Shape).Idx → EReal) (idx : IVec si w)
    (upd : (⟨3, ![A, U, B]⟩ : Shape).Idx → EReal) (o : ℕ)
    (hl : ∀ k ι, d.resultIdx? k idx = some ι ↔ (k 0).val = (ι 0).val ∧ o + (k 1).val = (ι 1).val ∧ (k 2).val = (ι 2).val)
    (t i j : ℕ) (ht : t < A) (hi : i < R) (hj : j < B) :
    rd3 (Host.scatter d f x idx upd) t i j
      = if o ≤ i ∧ i < o + U then f (rd3 x t i j) (rd3 upd t (i - o) j) else rd3 x t i j := by
  rw [rd3_in _ t i j ht hi hj, rd3_in x t i j ht hi hj]
  split
  · next h =>
    rw [rd3_in upd t (i - o) j ht (by omega) hj]
    refine scatter_once d f x idx upd _ _ ((hl _ _).2 ⟨rfl, by show o + (i - o) = i; omega, rfl⟩) fun k' h' => ?_
    obtain ⟨q0, q1, q2⟩ := (hl _ _).1 h'
    rw [eq_ix3 k']
    congr 1
    · exact Fin.ext q0
    · exact Fin.ext (by show (k' 1).val = i - o; have : o + (k' 1).val = i := q1; omega)
    · exact Fin.ext q2
  · next h =>
    refine scatter_miss d f x idx upd _ fun k' h' => h ?_
    obtain ⟨q0, q1, q2⟩ := (hl _ _).1 h'
    have e : o + (k' 1).val = i := q1
    have b : (k' 1).val < U := (k' 1).isLt
    omega

/-- Where the updates of a scatter of one block of rows land in a matrix: the block starts at row `o`. -/
theorem lands2 {R U B : ℕ} {si : Shape} {w : ℕ} (d : ScatterDims ⟨2, ![R, B]⟩ si ⟨2, ![U, B]⟩) (idx : IVec si w) (o : ℕ)
    (h0 : ∀ k, d.start k idx 0 = o) (h1 : ∀ k, d.start k idx 1 = 0)
    (w0 : ∀ k, d.window k 0 = (k 0).val) (w1 : ∀ k, d.window k 1 = (k 1).val)
    (k : (⟨2, ![U, B]⟩ : Shape).Idx) (ι : (⟨2, ![R, B]⟩ : Shape).Idx) :
    d.resultIdx? k idx = some ι ↔ o + (k 0).val = (ι 0).val ∧ (k 1).val = (ι 1).val := by
  rw [Routing.resultIdx?_eq_some]
  have e0 : d.start k idx 0 + (d.window k 0 : Int) = ((ι 0).val : Int) ↔ o + (k 0).val = (ι 0).val := by rw [h0, w0]; omega
  have e1 : d.start k idx 1 + (d.window k 1 : Int) = ((ι 1).val : Int) ↔ (k 1).val = (ι 1).val := by rw [h1, w1]; omega
  constructor
  · exact fun h => ⟨e0.1 (h 0), e1.1 (h 1)⟩
  · rintro ⟨q0, q1⟩ a
    match a with
    | ⟨0, _⟩ => exact e0.2 q0
    | ⟨1, _⟩ => exact e1.2 q1

/-- A scatter of one block of rows into a matrix: inside the block the update function of the operand's element and the
    update's, outside it the operand's element. -/
theorem scatter_rows2 {R U B : ℕ} {si : Shape} {w : ℕ} (d : ScatterDims ⟨2, ![R, B]⟩ si ⟨2, ![U, B]⟩)
    (f : EReal → EReal → EReal) (x : (⟨2, ![R, B]⟩ : Shape).Idx → EReal) (idx : IVec si w)
    (upd : (⟨2, ![U, B]⟩ : Shape).Idx → EReal) (o : ℕ)
    (hl : ∀ k ι, d.resultIdx? k idx = some ι ↔ o + (k 0).val = (ι 0).val ∧ (k 1).val = (ι 1).val)
    (i j : ℕ) (hi : i < R) (hj : j < B) :
    rd2 (Host.scatter d f x idx upd) i j
      = if o ≤ i ∧ i < o + U then f (rd2 x i j) (rd2 upd (i - o) j) else rd2 x i j := by
  rw [rd2_in _ i j hi hj, rd2_in x i j hi hj]
  split
  · next h =>
    rw [rd2_in upd (i - o) j (by omega) hj]
    refine scatter_once d f x idx upd _ _ ((hl _ _).2 ⟨by show o + (i - o) = i; omega, rfl⟩) fun k' h' => ?_
    obtain ⟨q0, q1⟩ := (hl _ _).1 h'
    rw [eq_ix2 k']
    congr 1
    · exact Fin.ext (by show (k' 0).val = i - o; have : o + (k' 0).val = i := q0; omega)
    · exact Fin.ext q1
  · next h =>
    refine scatter_miss d f x idx upd _ fun k' h' => h ?_
    obtain ⟨q0, q1⟩ := (hl _ _).1 h'
    have e : o + (k' 0).val = i := q0
    have b : (k' 0).val < U := (k' 0).isLt
    omega

/-- Where the updates of a scatter of one row land in a matrix: on row `o`. -/
theorem landsRow {R B : ℕ} {si : Shape} {w : ℕ} (d : ScatterDims ⟨2, ![R, B]⟩ si ⟨1, ![B]⟩) (idx : IVec si w) (o : ℕ)
    (h0 : ∀ k, d.start k idx 0 = o) (h1 : ∀ k, d.start k idx 1 = 0)
    (w0 : ∀ k, d.window k 0 = 0) (w1 : ∀ k, d.window k 1 = (k 0).val)
    (k : (⟨1, ![B]⟩ : Shape).Idx) (ι : (⟨2, ![R, B]⟩ : Shape).Idx) :
    d.resultIdx? k idx = some ι ↔ o = (ι 0).val ∧ (k 0).val = (ι 1).val := by
  rw [Routing.resultIdx?_eq_some]
  have e0 : d.start k idx 0 + (d.window k 0 : Int) = ((ι 0).val : Int) ↔ o = (ι 0).val := by rw [h0, w0]; omega
  have e1 : d.start k idx 1 + (d.window k 1 : Int) = ((ι 1).val : Int) ↔ (k 0).val = (ι 1).val := by rw [h1, w1]; omega
  constructor
  · exact fun h => ⟨e0.1 (h 0), e1.1 (h 1)⟩
  · rintro ⟨q0, q1⟩ a
    match a with
    | ⟨0, _⟩ => exact e0.2 q0
    | ⟨1, _⟩ => exact e1.2 q1

/-- A scatter of one row into a matrix: on that row the update function of the operand's element and the update's,
    elsewhere the operand's element. -/
theorem scatter_row {R B : ℕ} {si : Shape} {w : ℕ} (d : ScatterDims ⟨2, ![R, B]⟩ si ⟨1, ![B]⟩)
    (f : EReal → EReal → EReal) (x : (⟨2, ![R, B]⟩ : Shape).Idx → EReal) (idx : IVec si w)
    (upd : (⟨1, ![B]⟩ : Shape).Idx → EReal) (o : ℕ)
    (hl : ∀ k ι, d.resultIdx? k idx = some ι ↔ o = (ι 0).val ∧ (k 0).val = (ι 1).val)
    (i j : ℕ) (hi : i < R) (hj : j < B) :
    rd2 (Host.scatter d f x idx upd) i j = if i = o then f (rd2 x i j) (rd1 upd j) else rd2 x i j := by
  rw [rd2_in _ i j hi hj, rd2_in x i j hi hj]
  split
  · next h =>
    rw [rd1_in upd j hj]
    refine scatter_once d f x idx upd _ _ ((hl _ _).2 ⟨h.symm, rfl⟩) fun k' h' => ?_
    obtain ⟨q0, q1⟩ := (hl _ _).1 h'
    rw [eq_ix1 k']
    congr 1
    exact Fin.ext q1
  · next h =>
    refine scatter_miss d f x idx upd _ fun k' h' => h ?_
    obtain ⟨q0, q1⟩ := (hl _ _).1 h'
    exact q0.symm

end Scatter

end Cert.Reader
-- ==== Proof.Weights.lean ====
/-
  The pallas_call's four input arrays read at numbers (`rd2`), in closed form over the arguments.

  Band `o` of a filter holds, for each of a group's two result rows `s`, the taps that band's group row meets: run `r` of
  it (the group row's own row `r`) meets tap `2 * o + r - s - 1` of the first filter and tap `2 * o + r - s` of the
  second. The runs of a band are the two rows of the group (`h = 0`) and their positive parts (`h = 1`).
-/
module

public import proofs.«01_k».proof.Proof.Host
public import proofs.«01_k».proof.Proof.Reader

@[expose] public section

set_option maxRecDepth 16384

noncomputable section

open Idealize.ShloMosaic Idealize.ShloMosaic.TcCoe Idealize.SL.Sem

namespace Cert.KernelIdeal.Host

open Cert.KernelIdeal Cert.KernelIdeal.Gen Cert.Reader

/-- The value every pad writes is zero. -/
theorem sitofp_zero : (FloatOps.sitofp (F := Ideal) FTy.f32 (0#32)) = (0 : EReal) := by
  show (((0#32 : BitVec 32).toInt : ℝ) : EReal) = 0
  simp

section Filter0

variable (W : FVec Ideal S3x102x128 .f32) (b : FVec Ideal S128 .f32)

/-- The turned first filter: row `51 + c` has lost row `c`. -/
theorem turn0_rd (t i k : ℕ) (ht : t < 3) (hi : i < 102) (hk : k < 128) :
    rd3 (turn0 W) t i k = if 51 ≤ i then rd3 W t i k + -rd3 W t (i - 51) k else rd3 W t i k := by
  unfold turn0
  rw [scatter_rows3 _ _ _ _ _ 51 (lands3 _ _ 51 (fun _ => rfl) (fun _ => rfl) (fun _ => rfl) (fun _ => rfl) (fun _ => rfl) (fun _ => rfl))
    t i k ht hi hk]
  by_cases h : 51 ≤ i
  · rw [if_pos ⟨h, by omega⟩, if_pos h]
    refine congrArg (rd3 W t i k + ·) ?_
    rw [rd3_in _ t (i - 51) k ht (by omega) hk, rd3_in W t (i - 51) k ht (by omega) hk]
    pointwise
  · rw [if_neg (fun q => h q.1), if_neg h]

/-- A tap of the first filter's rows 0 to 50. -/
theorem neg0_rd (t c k : ℕ) (ht : t < 3) (hc : c < 64) (hk : k < 128) :
    rd3 (neg0 W) t c k = if c < 51 then rd3 W t c k else 0 := by
  rw [rd3_in _ t c k ht hc hk]
  unfold neg0
  pointwise [padZero]
  by_cases h : c < 51
  · rw [dif_pos ⟨ht, h, hk⟩, if_pos h]
    exact (rd3_of _ _ _ _ t c k rfl rfl rfl).trans ((turn0_rd W t c k ht (by omega) hk).trans (if_neg (by omega)))
  · rw [dif_neg (fun q => h q.2.1), if_neg h, sitofp_zero]

/-- A tap of the first filter's rows 51 to 101. -/
theorem pos0_rd (t c k : ℕ) (ht : t < 3) (hc : c < 64) (hk : k < 128) :
    rd3 (pos0 W) t c k = if c < 51 then rd3 W t (51 + c) k + -rd3 W t c k else 0 := by
  rw [rd3_in _ t c k ht hc hk]
  unfold pos0
  pointwise [padZero]
  by_cases h : c < 51
  · rw [dif_pos ⟨ht, h, hk⟩, if_pos h]
    refine (rd3_of _ _ _ _ t (51 + c) k rfl rfl rfl).trans ((turn0_rd W t (51 + c) k ht (by omega) hk).trans ?_)
    rw [if_pos (by omega), Nat.add_sub_cancel_left]
  · rw [dif_neg (fun q => h q.2.1), if_neg h, sitofp_zero]

end Filter0

section Filter1

variable (W : FVec Ideal S5x230x128 .f32) (b : FVec Ideal S128 .f32)

/-- The turned second filter: row `51 + c` has lost row `c`. -/
theorem turn1_rd (t i k : ℕ) (ht : t < 5) (hi : i < 230) (hk : k < 128) :
    rd3 (turn1 W) t i k = if 51 ≤ i ∧ i < 102 then rd3 W t i k + -rd3 W t (i - 51) k else rd3 W t i k := by
  unfold turn1
  rw [scatter_rows3 _ _ _ _ _ 51 (lands3 _ _ 51 (fun _ => rfl) (fun _ => rfl) (fun _ => rfl) (fun _ => rfl) (fun _ => rfl) (fun _ => rfl))
    t i k ht hi hk]
  by_cases h : 51 ≤ i ∧ i < 102
  · rw [if_pos (show 51 ≤ i ∧ i < 51 + 51 by omega), if_pos h]
    refine congrArg (rd3 W t i k + ·) ?_
    rw [rd3_in _ t (i - 51) k ht (by omega) hk, rd3_in W t (i - 51) k ht (by omega) hk]
    pointwise
  · rw [if_neg (show ¬(51 ≤ i ∧ i < 51 + 51) by omega), if_neg h]

/-- A tap of the second filter's rows 0 to 50. -/
theorem neg1_rd (t c k : ℕ) (ht : t < 5) (hc : c < 64) (hk : k < 128) :
    rd3 (neg1 W) t c k = if c < 51 then rd3 W t c k else 0 := by
  rw [rd3_in _ t c k ht hc hk]
  unfold neg1
  pointwise [padZero]
  by_cases h : c < 51
  · rw [dif_pos ⟨ht, h, hk⟩, if_pos h]
    exact (rd3_of _ _ _ _ t c k rfl rfl rfl).trans ((turn1_rd W t c k ht (by omega) hk).trans (if_neg (by omega)))
  · rw [dif_neg (fun q => h q.2.1), if_neg h, sitofp_zero]

/-- A tap of the second filter's rows 51 to 101. -/
theorem pos1_rd (t c k : ℕ) (ht : t < 5) (hc : c < 64) (hk : k < 128) :
    rd3 (pos1 W) t c k = if c < 51 then rd3 W t (51 + c) k + -rd3 W t c k else 0 := by
  rw [rd3_in _ t c k ht hc hk]
  unfold pos1
  pointwise [padZero]
  by_cases h : c < 51
  · rw [dif_pos ⟨ht, h, hk⟩, if_pos h]
    refine (rd3_of _ _ _ _ t (51 + c) k rfl rfl rfl).trans ((turn1_rd W t (51 + c) k ht (by omega) hk).trans ?_)
    rw [if_pos (by omega), Nat.add_sub_cancel_left]
  · rw [dif_neg (fun q => h q.2.1), if_neg h, sitofp_zero]

/-- A tap of the second filter's rows from 102 on. -/
theorem own1_rd (t c k : ℕ) (ht : t < 5) (hc : c < 128) (hk : k < 128) : rd3 (own1 W) t c k = rd3 W t (102 + c) k := by
  rw [rd3_in _ t c k ht hc hk]
  unfold own1
  pointwise
  exact (rd3_of _ _ _ _ t (102 + c) k rfl rfl rfl).trans ((turn1_rd W t (102 + c) k ht (by omega) hk).trans (if_neg (by omega)))

end Filter1

/-! ### One tap, the zero runs, the bias row -/

/-- Tap 0 of three, read. -/
theorem tap3_0_rd (P : FVec Ideal S3x64x128 .f32) (c k : ℕ) (hc : c < 64) (hk : k < 128) :
    rd2 (tap3_0 P) c k = rd3 P 0 c k := by
  rw [rd2_in _ c k hc hk]
  unfold tap3_0
  pointwise
  exact rd3_of _ _ _ _ _ _ _ rfl rfl rfl

/-- Tap 1 of three, read. -/
theorem tap3_1_rd (P : FVec Ideal S3x64x128 .f32) (c k : ℕ) (hc : c < 64) (hk : k < 128) :
    rd2 (tap3_1 P) c k = rd3 P 1 c k := by
  rw [rd2_in _ c k hc hk]
  unfold tap3_1
  pointwise
  exact rd3_of _ _ _ _ _ _ _ rfl rfl rfl

/-- Tap 2 of three, read. -/
theorem tap3_2_rd (P : FVec Ideal S3x64x128 .f32) (c k : ℕ) (hc : c < 64) (hk : k < 128) :
    rd2 (tap3_2 P) c k = rd3 P 2 c k := by
  rw [rd2_in _ c k hc hk]
  unfold tap3_2
  pointwise
  exact rd3_of _ _ _ _ _ _ _ rfl rfl rfl

/-- Tap 0 of five, read. -/
theorem tap5_0_rd (P : FVec Ideal S5x64x128 .f32) (c k : ℕ) (hc : c < 64) (hk : k < 128) :
    rd2 (tap5_0 P) c k = rd3 P 0 c k := by
  rw [rd2_in _ c k hc hk]
  unfold tap5_0
  pointwise
  exact rd3_of _ _ _ _ _ _ _ rfl rfl rfl

/-- Tap 1 of five, read. -/
theorem tap5_1_rd (P : FVec Ideal S5x64x128 .f32) (c k : ℕ) (hc : c < 64) (hk : k < 128) :
    rd2 (tap5_1 P) c k = rd3 P 1 c k := by
  rw [rd2_in _ c k hc hk]
  unfold tap5_1
  pointwise
  exact rd3_of _ _ _ _ _ _ _ rfl rfl rfl

/-- Tap 2 of five, read. -/
theorem tap5_2_rd (P : FVec Ideal S5x64x128 .f32) (c k : ℕ) (hc : c < 64) (hk : k < 128) :
    rd2 (tap5_2 P) c k = rd3 P 2 c k := by
  rw [rd2_in _ c k hc hk]
  unfold tap5_2
  pointwise
  exact rd3_of _ _ _ _ _ _ _ rfl rfl rfl

/-- Tap 3 of five, read. -/
theorem tap5_3_rd (P : FVec Ideal S5x64x128 .f32) (c k : ℕ) (hc : c < 64) (hk : k < 128) :
    rd2 (tap5_3 P) c k = rd3 P 3 c k := by
  rw [rd2_in _ c k hc hk]
  unfold tap5_3
  pointwise
  exact rd3_of _ _ _ _ _ _ _ rfl rfl rfl

/-- Tap 4 of five, read. -/
theorem tap5_4_rd (P : FVec Ideal S5x64x128 .f32) (c k : ℕ) (hc : c < 64) (hk : k < 128) :
    rd2 (tap5_4 P) c k = rd3 P 4 c k := by
  rw [rd2_in _ c k hc hk]
  unfold tap5_4
  pointwise
  exact rd3_of _ _ _ _ _ _ _ rfl rfl rfl

/-- Tap 0 of five, of the layer's own channels, read. -/
theorem own5_0_rd (P : FVec Ideal S5x128x128 .f32) (c k : ℕ) (hc : c < 128) (hk : k < 128) :
    rd2 (own5_0 P) c k = rd3 P 0 c k := by
  rw [rd2_in _ c k hc hk]
  unfold own5_0
  pointwise
  exact rd3_of _ _ _ _ _ _ _ rfl rfl rfl

/-- Tap 1 of five, of the layer's own channels, read. -/
theorem own5_1_rd (P : FVec Ideal S5x128x128 .f32) (c k : ℕ) (hc : c < 128) (hk : k < 128) :
    rd2 (own5_1 P) c k = rd3 P 1 c k := by
  rw [rd2_in _ c k hc hk]
  unfold own5_1
  pointwise
  exact rd3_of _ _ _ _ _ _ _ rfl rfl rfl

/-- Tap 2 of five, of the layer's own channels, read. -/
theorem own5_2_rd (P : FVec Ideal S5x128x128 .f32) (c k : ℕ) (hc : c < 128) (hk : k < 128) :
    rd2 (own5_2 P) c k = rd3 P 2 c k := by
  rw [rd2_in _ c k hc hk]
  unfold own5_2
  pointwise
  exact rd3_of _ _ _ _ _ _ _ rfl rfl rfl

/-- Tap 3 of five, of the layer's own channels, read. -/
theorem own5_3_rd (P : FVec Ideal S5x128x128 .f32) (c k : ℕ) (hc : c < 128) (hk : k < 128) :
    rd2 (own5_3 P) c k = rd3 P 3 c k := by
  rw [rd2_in _ c k hc hk]
  unfold own5_3
  pointwise
  exact rd3_of _ _ _ _ _ _ _ rfl rfl rfl

/-- Tap 4 of five, of the layer's own channels, read. -/
theorem own5_4_rd (P : FVec Ideal S5x128x128 .f32) (c k : ℕ) (hc : c < 128) (hk : k < 128) :
    rd2 (own5_4 P) c k = rd3 P 4 c k := by
  rw [rd2_in _ c k hc hk]
  unfold own5_4
  pointwise
  exact rd3_of _ _ _ _ _ _ _ rfl rfl rfl

/-- The zero run. -/
theorem none64_rd (c k : ℕ) : rd2 none64 c k = 0 := by
  unfold rd2 none64
  split
  · pointwise
  · rfl

/-- The longer zero run. -/
theorem none128_rd (c k : ℕ) : rd2 none128 c k = 0 := by
  unfold rd2 none128
  split
  · pointwise
  · rfl

/-- A tap with the bias on row 51, read. -/
theorem bias_rd (n : FVec Ideal S64x128 .f32) (b : FVec Ideal S128 .f32) (c k : ℕ) (hc : c < 64) (hk : k < 128) :
    rd2 (bias n b) c k = if c = 51 then rd1 b k else rd2 n c k := by
  unfold bias
  exact scatter_row _ _ _ _ _ 51 (landsRow _ _ 51 (fun _ => rfl) (fun _ => rfl) (fun _ => rfl) (fun _ => rfl)) c k hc hk

/-! ### Runs and bands, read -/

/-- A band of four runs: run `r` of the rows (`h = 0`) or of their positive parts (`h = 1`). -/
theorem rows4_rd (A B C D : FVec Ideal S64x128 .f32) (h r c k : ℕ) (hh : h < 2) (hr : r < 2) (hc : c < 64) (hk : k < 128) :
    rd2 (rows4 A B C D) (128 * h + (64 * r + c)) k
      = if h = 0 then if r = 0 then rd2 A c k else rd2 B c k else if r = 0 then rd2 C c k else rd2 D c k := by
  rw [rd2_in _ _ k (by omega) hk]
  unfold rows4
  pointwise
  repeat' split
  all_goals first | omega | exact rd2_of _ _ _ _ _ (by dsimp only; omega) rfl

/-- A band of two runs. -/
theorem rows2_rd (A B : FVec Ideal S128x128 .f32) (r c k : ℕ) (hr : r < 2) (hc : c < 128) (hk : k < 128) :
    rd2 (rows2 A B) (128 * r + c) k = if r = 0 then rd2 A c k else rd2 B c k := by
  rw [rd2_in _ _ k (by omega) hk]
  unfold rows2
  pointwise
  repeat' split
  all_goals first | omega | exact rd2_of _ _ _ _ _ (by dsimp only; omega) rfl

/-- The columns of a group's two rows. -/
theorem cols2_rd (A B : FVec Ideal S256x128 .f32) (i s k : ℕ) (hi : i < 256) (hs : s < 2) (hk : k < 128) :
    rd2 (cols2 A B) i (128 * s + k) = if s = 0 then rd2 A i k else rd2 B i k := by
  rw [rd2_in _ i _ hi (by omega)]
  unfold cols2
  pointwise
  repeat' split
  all_goals first | omega | exact rd2_of _ _ _ _ _ rfl (by dsimp only; omega)

/-- Three bands. -/
theorem rows3_rd (A B C : FVec Ideal S256x256 .f32) (o i j : ℕ) (ho : o < 3) (hi : i < 256) (hj : j < 256) :
    rd2 (rows3 A B C) (256 * o + i) j = if o = 0 then rd2 A i j else if o = 1 then rd2 B i j else rd2 C i j := by
  rw [rd2_in _ _ j (by omega) hj]
  unfold rows3
  pointwise
  repeat' split
  all_goals first | omega | exact rd2_of _ _ _ _ _ (by dsimp only; omega) rfl

/-- The weights of a row's own channels at one tap `w`: 51 of them, then the bias, then zeros. -/
def negW (w : ℕ → ℕ → EReal) (b : ℕ → EReal) (c k : ℕ) : EReal := if c < 51 then w c k else if c = 51 then b k else 0

/-- The weights of the positive parts of a row's channels at one tap `w`: the tap's second 51 rows less its first. -/
def posW (w : ℕ → ℕ → EReal) (c k : ℕ) : EReal := if c < 51 then w (51 + c) k + -w c k else 0

/-- The first filter's bands: band `o`, run `r` of the rows (`h = 0`) or of their positive parts (`h = 1`), result row
    `s`. The centre tap carries the bias. -/
theorem band0_rd (W : FVec Ideal S3x102x128 .f32) (b : FVec Ideal S128 .f32) (o h r c s k : ℕ) (ho : o < 3) (hh : h < 2)
    (hr : r < 2) (hc : c < 64) (hs : s < 2) (hk : k < 128) :
    rd2 (band0 W b) (256 * o + (128 * h + (64 * r + c))) (128 * s + k)
      = if s + 1 ≤ 2 * o + r ∧ 2 * o + r < s + 4 then
          if h = 0 then negW (rd3 W (2 * o + r - s - 1)) (if 2 * o + r - s - 1 = 1 then rd1 b else 0) c k
          else posW (rd3 W (2 * o + r - s - 1)) c k
        else 0 := by
  have e : ∀ X : FVec Ideal S768x256 .f32, ∀ i j, rd2 (truncf .bf16 X bitsLt_bf16_f32) i j = rd2 X i j := fun _ _ _ => rfl
  unfold band0
  rw [e, rows3_rd _ _ _ o _ _ ho (by omega) (by omega)]
  simp only [cols2_rd _ _ _ s k (show 128 * h + (64 * r + c) < 256 by omega) hs hk, rows4_rd _ _ _ _ h r c k hh hr hc hk,
    bias_rd _ _ c k hc hk, none64_rd, tap3_0_rd _ c k hc hk, tap3_1_rd _ c k hc hk, tap3_2_rd _ c k hc hk,
    neg0_rd W _ c k (show 0 < 3 by omega) hc hk, neg0_rd W _ c k (show 1 < 3 by omega) hc hk, neg0_rd W _ c k (show 2 < 3 by omega) hc hk,
    pos0_rd W _ c k (show 0 < 3 by omega) hc hk, pos0_rd W _ c k (show 1 < 3 by omega) hc hk, pos0_rd W _ c k (show 2 < 3 by omega) hc hk]
  unfold negW posW
  interval_cases o <;> interval_cases h <;> interval_cases r <;> interval_cases s <;> simp
  all_goals by_cases h : c = 51 <;> simp [h]

/-- The second filter's bands on the rows and their positive parts. The centre tap carries the bias. -/
theorem band1_x (W : FVec Ideal S5x230x128 .f32) (b : FVec Ideal S128 .f32) (o h r c s k : ℕ) (ho : o < 3) (hh : h < 2)
    (hr : r < 2) (hc : c < 64) (hs : s < 2) (hk : k < 128) :
    rd2 (band1 W b) (256 * o + (128 * h + (64 * r + c))) (128 * s + k)
      = if s ≤ 2 * o + r ∧ 2 * o + r < s + 5 then
          if h = 0 then negW (rd3 W (2 * o + r - s)) (if 2 * o + r - s = 2 then rd1 b else 0) c k
          else posW (rd3 W (2 * o + r - s)) c k
        else 0 := by
  have e : rd2 (band1 W b) (256 * o + (128 * h + (64 * r + c))) (128 * s + k)
      = rd2 (band1x W b) (256 * o + (128 * h + (64 * r + c))) (128 * s + k) := by
    rw [rd2_in _ (256 * o + (128 * h + (64 * r + c))) (128 * s + k) (by omega) (by omega)]
    unfold band1
    pointwise
    split
    · exact rd2_of _ _ _ _ _ rfl rfl
    · omega
  rw [e]
  unfold band1x
  rw [rows3_rd _ _ _ o _ _ ho (by omega) (by omega)]
  simp only [cols2_rd _ _ _ s k (show 128 * h + (64 * r + c) < 256 by omega) hs hk, rows4_rd _ _ _ _ h r c k hh hr hc hk,
    bias_rd _ _ c k hc hk, none64_rd, tap5_0_rd _ c k hc hk, tap5_1_rd _ c k hc hk, tap5_2_rd _ c k hc hk, tap5_3_rd _ c k hc hk,
    tap5_4_rd _ c k hc hk, fun t ht => neg1_rd W t c k ht hc hk, fun t ht => pos1_rd W t c k ht hc hk, Nat.reduceLT]
  unfold negW posW
  interval_cases o <;> interval_cases h <;> interval_cases r <;> interval_cases s <;> simp
  all_goals by_cases h : c = 51 <;> simp [h]

/-- The second filter's bands on the first layer's own channels. -/
theorem band1_y (W : FVec Ideal S5x230x128 .f32) (b : FVec Ideal S128 .f32) (o r c s k : ℕ) (ho : o < 3)
    (hr : r < 2) (hc : c < 128) (hs : s < 2) (hk : k < 128) :
    rd2 (band1 W b) (768 + (256 * o + (128 * r + c))) (128 * s + k)
      = if s ≤ 2 * o + r ∧ 2 * o + r < s + 5 then rd3 W (2 * o + r - s) (102 + c) k else 0 := by
  have e : rd2 (band1 W b) (768 + (256 * o + (128 * r + c))) (128 * s + k)
      = rd2 (band1y W) (256 * o + (128 * r + c)) (128 * s + k) := by
    rw [rd2_in _ (768 + (256 * o + (128 * r + c))) (128 * s + k) (by omega) (by omega)]
    unfold band1
    pointwise
    exact rd2_of _ _ _ _ _ rfl rfl
  rw [e]
  unfold band1y
  rw [rows3_rd _ _ _ o _ _ ho (by omega) (by omega)]
  simp only [cols2_rd _ _ _ s k (show 128 * r + c < 256 by omega) hs hk, rows2_rd _ _ r c k hr hc hk,
    none128_rd, own5_0_rd _ c k hc hk, own5_1_rd _ c k hc hk, own5_2_rd _ c k hc hk, own5_3_rd _ c k hc hk,
    own5_4_rd _ c k hc hk, fun t ht => own1_rd W t c k ht hc hk, Nat.reduceLT]
  interval_cases o <;> interval_cases r <;> interval_cases s <;> simp

/-! ### The head -/

section Head

variable (W : FVec Ideal S230x2 .f32) (b : FVec Ideal S2 .f32)

/-- The turned head: row `51 + c` has lost row `c`. -/
theorem turnH_rd (i k : ℕ) (hi : i < 230) (hk : k < 2) :
    rd2 (turnH W) i k = if 51 ≤ i ∧ i < 102 then rd2 W i k + -rd2 W (i - 51) k else rd2 W i k := by
  unfold turnH
  rw [scatter_rows2 _ _ _ _ _ 51 (lands2 _ _ 51 (fun _ => rfl) (fun _ => rfl) (fun _ => rfl) (fun _ => rfl)) i k hi hk]
  by_cases h : 51 ≤ i ∧ i < 102
  · rw [if_pos (show 51 ≤ i ∧ i < 51 + 51 by omega), if_pos h]
    refine congrArg (rd2 W i k + ·) ?_
    rw [rd2_in _ (i - 51) k (by omega) hk, rd2_in W (i - 51) k (by omega) hk]
    pointwise
  · rw [if_neg (show ¬(51 ≤ i ∧ i < 51 + 51) by omega), if_neg h]

/-- The head's rows 0 to 50, padded. -/
theorem negH_rd (c k : ℕ) (hc : c < 64) (hk : k < 2) : rd2 (negH W) c k = if c < 51 then rd2 W c k else 0 := by
  rw [rd2_in _ c k hc hk]
  unfold negH
  pointwise [padZero]
  by_cases h : c < 51
  · rw [dif_pos ⟨h, hk⟩, if_pos h]
    exact (rd2_of _ _ _ c k rfl rfl).trans ((turnH_rd W c k (by omega) hk).trans (if_neg (by omega)))
  · rw [dif_neg (fun q => h q.1), if_neg h, sitofp_zero]

/-- The head's rows 51 to 101, padded. -/
theorem posH_rd (c k : ℕ) (hc : c < 64) (hk : k < 2) :
    rd2 (posH W) c k = if c < 51 then rd2 W (51 + c) k + -rd2 W c k else 0 := by
  rw [rd2_in _ c k hc hk]
  unfold posH
  pointwise [padZero]
  by_cases h : c < 51
  · rw [dif_pos ⟨h, hk⟩, if_pos h]
    refine (rd2_of _ _ _ (51 + c) k rfl rfl).trans ((turnH_rd W (51 + c) k (by omega) hk).trans ?_)
    rw [if_pos (by omega), Nat.add_sub_cancel_left]
  · rw [dif_neg (fun q => h q.1), if_neg h, sitofp_zero]

/-- The head's rows from 102 on. -/
theorem ownH_rd (c k : ℕ) (hc : c < 128) (hk : k < 2) : rd2 (ownH W) c k = rd2 W (102 + c) k := by
  rw [rd2_in _ c k hc hk]
  unfold ownH
  pointwise
  exact (rd2_of _ _ _ (102 + c) k rfl rfl).trans ((turnH_rd W (102 + c) k (by omega) hk).trans (if_neg (by omega)))

/-- The head with the bias on row 51. -/
theorem biasH_rd (n : FVec Ideal S64x2 .f32) (c k : ℕ) (hc : c < 64) (hk : k < 2) :
    rd2 (biasH n b) c k = if c = 51 then rd1 b k else rd2 n c k := by
  unfold biasH
  exact scatter_row _ _ _ _ _ 51 (landsRow _ _ 51 (fun _ => rfl) (fun _ => rfl) (fun _ => rfl) (fun _ => rfl)) c k hc hk

/-- The two-column zero run. -/
theorem noneH64_rd (c k : ℕ) : rd2 noneH64 c k = 0 := by
  unfold rd2 noneH64
  split
  · pointwise
  · rfl

/-- The longer two-column zero run. -/
theorem noneH128_rd (c k : ℕ) : rd2 noneH128 c k = 0 := by
  unfold rd2 noneH128
  split
  · pointwise
  · rfl

/-- Six runs: the first four, of 64 rows. -/
theorem rows6_x (A B C D : FVec Ideal S64x2 .f32) (E F : FVec Ideal S128x2 .f32) (h r c k : ℕ) (hh : h < 2) (hr : r < 2)
    (hc : c < 64) (hk : k < 2) : rd2 (rows6 A B C D E F) (128 * h + (64 * r + c)) k
      = if h = 0 then if r = 0 then rd2 A c k else rd2 B c k else if r = 0 then rd2 C c k else rd2 D c k := by
  rw [rd2_in _ _ k (by omega) hk]
  unfold rows6
  pointwise
  repeat' split
  all_goals first | omega | exact rd2_of _ _ _ _ _ (by dsimp only; omega) rfl

/-- Six runs: the last two, of 128 rows. -/
theorem rows6_y (A B C D : FVec Ideal S64x2 .f32) (E F : FVec Ideal S128x2 .f32) (r c k : ℕ) (hr : r < 2)
    (hc : c < 128) (hk : k < 2) : rd2 (rows6 A B C D E F) (256 + (128 * r + c)) k
      = if r = 0 then rd2 E c k else rd2 F c k := by
  rw [rd2_in _ _ k (by omega) hk]
  unfold rows6
  pointwise
  repeat' split
  all_goals first | omega | exact rd2_of _ _ _ _ _ (by dsimp only; omega) rfl

/-- The head's two bands side by side. -/
theorem bandH_cols (i s k : ℕ) (hi : i < 512) (hs : s < 2) (hk : k < 2) :
    rd2 (bandH W b) i (2 * s + k)
      = if s = 0 then rd2 (rows6 (biasH (negH W) b) noneH64 (posH W) noneH64 (ownH W) noneH128) i k
        else rd2 (rows6 noneH64 (biasH (negH W) b) noneH64 (posH W) noneH128 (ownH W)) i k := by
  rw [rd2_in _ i _ hi (by omega)]
  unfold bandH
  pointwise
  repeat' split
  all_goals first | omega | exact rd2_of _ _ _ _ _ rfl (by dsimp only; omega)

/-- The head on the rows and their positive parts: the bias on row 51. -/
theorem bandH_x (h r c s k : ℕ) (hh : h < 2) (hr : r < 2) (hc : c < 64) (hs : s < 2) (hk : k < 2) :
    rd2 (bandH W b) (128 * h + (64 * r + c)) (2 * s + k)
      = if r = s then if h = 0 then negW (rd2 W) (rd1 b) c k else posW (rd2 W) c k else 0 := by
  rw [bandH_cols W b _ s k (by omega) hs hk]
  simp only [rows6_x _ _ _ _ _ _ h r c k hh hr hc hk, biasH_rd b _ c k hc hk, noneH64_rd, negH_rd W c k hc hk, posH_rd W c k hc hk]
  unfold negW posW
  interval_cases h <;> interval_cases r <;> interval_cases s <;> simp
  all_goals by_cases h : c = 51 <;> simp [h]

/-- The head on the second layer's own channels. -/
theorem bandH_y (r c s k : ℕ) (hr : r < 2) (hc : c < 128) (hs : s < 2) (hk : k < 2) :
    rd2 (bandH W b) (256 + (128 * r + c)) (2 * s + k) = if r = s then rd2 W (102 + c) k else 0 := by
  rw [bandH_cols W b _ s k (by omega) hs hk]
  simp only [rows6_y _ _ _ _ _ _ r c k hr hc hk, noneH128_rd, ownH_rd W c k hc hk]
  interval_cases r <;> interval_cases s <;> simp

end Head

/-! ### The packed input -/

/-- Row `r` of packed group row `g`: the row's 51 channels, a one, then zeros. -/
theorem packed_rd (x : FVec Ideal S1x65536x51 .f32) (g r c : ℕ) (hg : g < 32768) (hr : r < 2) (hc : c < 64) :
    rd2 (packed x) g (64 * r + c) = if c < 51 then rd3 x 0 (2 * g + r) c else if c = 51 then 1 else 0 := by
  rw [rd2_in _ g _ hg (by omega)]
  unfold packed
  pointwise
  have e : (64 * r + c) % 64 = c := by omega
  have e' : (64 * r + c) / 64 = r := by omega
  simp only [e, e']
  by_cases h : c < 51
  · rw [dif_pos h, if_pos h]
    exact rd3_of _ _ _ _ _ _ _ rfl (by dsimp only; omega) rfl
  · rw [dif_neg h, if_neg h]
    by_cases h' : c = 51
    · rw [if_pos h', dif_pos (by omega)]
    · rw [if_neg h', dif_neg (by omega)]

end Cert.KernelIdeal.Host
-- ==== Proof.Model.lean ====
/-
  The kernel's result in closed form, as sums of extended reals over its four input arrays read at numbers.

  `X` is the packed input (group row, channel), `w` the first filter's bands, `v` the second filter's, `h` the head's.
  A group row is named by its number plus two (`p`), so that the two group rows before the sequence have names.
-/
module

public import Idealize.ShloMosaic.Lib.IdealHost

@[expose] public section

noncomputable section

open Idealize.ShloMosaic

namespace Cert.Model

/-- Group row `p - 2` of the packed input: zero before and after the sequence. -/
def xg (X : ℕ → ℕ → EReal) (p q : ℕ) : EReal := if 2 ≤ p ∧ p < 32770 then X (p - 2) q else 0

/-- A group row beside its positive part. -/
def xc (X : ℕ → ℕ → EReal) (p q : ℕ) : EReal := if q < 128 then xg X p q else max (xg X p (q - 128)) 0

/-- Row `p` of `Y` against column `k` of band `o` of `w`. -/
def dot (Y w : ℕ → ℕ → EReal) (p o k : ℕ) : EReal := ∑ q ∈ Finset.range 256, Y p q * w (256 * o + q) k

/-- The first layer at group row `p - 1`, before its positive part is taken. -/
def acc0 (X w : ℕ → ℕ → EReal) (p k : ℕ) : EReal := dot (xc X) w p 0 k + dot (xc X) w (1 + p) 1 k + dot (xc X) w (2 + p) 2 k

/-- The first layer at group row `p - 1`: zero before and after the sequence. -/
def y0 (X w : ℕ → ℕ → EReal) (p k : ℕ) : EReal := if 1 ≤ p ∧ p < 32769 then max (acc0 X w p k) 0 else 0

/-- The second layer at group row `g`, before its positive part is taken. -/
def acc1 (X w v : ℕ → ℕ → EReal) (g k : ℕ) : EReal :=
  dot (xc X) v (1 + g) 0 k + dot (xc X) v (2 + g) 1 k + dot (xc X) v (3 + g) 2 k
    + dot (y0 X w) v g 3 k + dot (y0 X w) v (1 + g) 4 k + dot (y0 X w) v (2 + g) 5 k

/-- The head at group row `g`. -/
def z (X w v h : ℕ → ℕ → EReal) (g k : ℕ) : EReal :=
  dot (xc X) h (2 + g) 0 k + ∑ q ∈ Finset.range 256, max (acc1 X w v g q) 0 * h (256 + q) k

/-- The softplus function. -/
def soft (a : EReal) : EReal := max a 0 + Ideal.log1p (Ideal.exp (-(FloatOps.absf (F := Ideal) (φ := .f32) a)))

end Cert.Model
-- ==== Proof.Point.lean ====
/-
  One block of the kernel's result, in closed form over the packed input and the bands.
-/
module

public import proofs.«01_k».proof.Proof.Weights
public import proofs.«01_k».proof.Proof.Model
public import Idealize.ShloMosaic.Lib.WordCmp

@[expose] public section

set_option maxRecDepth 16384

noncomputable section

open Idealize.ShloMosaic Idealize.ShloMosaic.TcCoe Idealize.SL.Sem

namespace Cert.KernelIdeal.Point

open Cert.KernelIdeal Cert.KernelIdeal.Gen Cert.Reader Cert.Model

/-- A matrix product's element as a sum over numbers. -/
theorem dot_rd {A B K : ℕ} (Y : (⟨2, ![A, K]⟩ : Shape).Idx → EReal) (W : (⟨2, ![K, B]⟩ : Shape).Idx → EReal) (a : Fin A) (b : Fin B)
    (i j : ℕ) (ha : a.val = i) (hb : b.val = j) :
    ∑ x : Fin K, Y (ix2 a x) * W (ix2 x b) = ∑ q ∈ Finset.range K, rd2 Y i q * rd2 W q j := by
  rw [Finset.sum_range]
  exact Finset.sum_congr rfl fun x _ => by rw [rd2_of Y a x i x ha rfl, rd2_of W x b x j rfl hb]

/-- The kernel's test of a group row against the sequence: row `j` of block `t`'s 4100 rows. -/
theorem mask (t j : ℕ) (ht : t < 8) (hj : j < 4100) (a b : EReal) :
    Scalar.select (IntOp.andi
        (IntOp.cmpi CmpIPredicate.sge (IntOp.addi (Scalar.subi (Scalar.muli (BitVec.ofNat 32 t) 4096#32) 2#32) (BitVec.ofNat 32 j)) 0#32)
        (IntOp.cmpi CmpIPredicate.slt (IntOp.addi (Scalar.subi (Scalar.muli (BitVec.ofNat 32 t) 4096#32) 2#32) (BitVec.ofNat 32 j)) 32768#32))
        a b
      = if 2 ≤ t * 4096 + j ∧ t * 4096 + j < 32770 then a else b := by
  have e : (IntOp.addi (Scalar.subi (Scalar.muli (BitVec.ofNat 32 t) 4096#32) 2#32) (BitVec.ofNat 32 j)).toNat
      = (t * 4096 + 4294967294 + j) % 4294967296 := by
    show (BitVec.ofNat 32 t * 4096#32 - 2#32 + BitVec.ofNat 32 j).toNat = _
    simp only [BitVec.toNat_add, BitVec.toNat_sub, BitVec.toNat_mul, BitVec.toNat_ofNat]
    omega
  rw [WordCmp.andi_sge_zero_slt_ofNat (by decide), e]
  have c : ((t * 4096 + 4294967294 + j) % 4294967296 < 32768) ↔ (2 ≤ t * 4096 + j ∧ t * 4096 + j < 32770) := by omega
  simp only [c]
  by_cases h : 2 ≤ t * 4096 + j ∧ t * 4096 + j < 32770 <;> simp [h, Scalar.select]

section Block

variable (X : ℕ → ℕ → EReal) (i : grid0.Coords) (v0 : Vec Ideal S2x128 .bf16) (v2 : Vec Ideal S4096x128 .bf16)
  (v4 : Vec Ideal S2x128 .bf16) (t : ℕ) (ht : t < 8) (hi : (i 0).val = t)
  (h0 : ∀ j q, j < 2 → q < 128 → 0 < t → rd2 v0 j q = X (t * 4096 + j - 2) q)
  (h2 : ∀ j q, j < 4096 → q < 128 → rd2 v2 j q = X (t * 4096 + j) q)
  (h4 : ∀ j q, j < 2 → q < 128 → t < 7 → rd2 v4 j q = X (t * 4096 + 4096 + j) q)

include ht hi h0 h2 h4

/-- The block's 4100 group rows, masked, beside their positive parts. -/
theorem pay3_rd (j q : ℕ) (hj : j < 4100) (hq : q < 256) : rd2 (k0_pay3 i v0 v2 v4) j q = xc X (t * 4096 + j) q := by
  have key : ∀ q (hq : q < 128), (if 2 ≤ t * 4096 + j ∧ t * 4096 + j < 32770 then
      (if h_1 : j < 2 then v0 (ix2 ⟨j, h_1⟩ ⟨q, hq⟩)
        else if h_2 : j - 2 < 4096 then v2 (ix2 ⟨j - 2, h_2⟩ ⟨q, hq⟩) else v4 (ix2 ⟨j - 2 - 4096, by omega⟩ ⟨q, hq⟩)) else 0)
      = xg X (t * 4096 + j) q := by
    intro q hq
    unfold xg
    by_cases h : 2 ≤ t * 4096 + j ∧ t * 4096 + j < 32770
    · rw [if_pos h, if_pos h]
      by_cases a : j < 2
      · rw [dif_pos a, ← h0 j q a hq (by omega)]
        exact rd2_of _ _ _ _ _ rfl rfl
      · by_cases b : j - 2 < 4096
        · rw [dif_neg a, dif_pos b, show t * 4096 + j - 2 = t * 4096 + (j - 2) by omega, ← h2 (j - 2) q b hq]
          exact rd2_of _ _ _ _ _ rfl rfl
        · rw [dif_neg a, dif_neg b, show t * 4096 + j - 2 = t * 4096 + 4096 + (j - 2 - 4096) by omega,
            ← h4 (j - 2 - 4096) q (by omega) hq (by omega)]
          exact rd2_of _ _ _ _ _ rfl rfl
    · rw [if_neg h, if_neg h]
  rw [rd2_in _ j q hj hq]
  unfold k0_pay3 k0_pay2
  pointwise
  rw [hi]
  unfold xc
  by_cases h : q < 128
  · refine (dif_pos h).trans (Eq.trans ?_ (if_pos h).symm)
    rw [mask t j ht hj]
    exact key q h
  · refine (dif_neg h).trans (Eq.trans ?_ (if_neg h).symm)
    rw [mask t j ht hj]
    exact congrArg (max · 0) (key (q - 128) (by omega))

/-- A product of a run of the block's group rows with a band. -/
theorem dot3 (W : Vec Ideal S256x256 .bf16) (w : ℕ → ℕ → EReal) (o : ℕ)
    (hw : ∀ q k, q < 256 → k < 256 → rd2 W q k = w (256 * o + q) k) (a : Fin 4100) (b : Fin 256) (p k : ℕ)
    (ha : t * 4096 + a.val = p) (hb : b.val = k) :
    ∑ x : Fin 256, k0_pay3 i v0 v2 v4 (ix2 a x) * W (ix2 x b) = dot (xc X) w p o k := by
  rw [dot_rd (A := 4100) (B := 256) (K := 256) _ W a b a k rfl hb]
  refine Finset.sum_congr rfl fun q hq => ?_
  have hq := Finset.mem_range.1 hq
  rw [pay3_rd X i v0 v2 v4 t ht hi h0 h2 h4 a q a.isLt hq, hw q k hq (hb ▸ b.isLt), ha]

variable (w : ℕ → ℕ → EReal) (v26 v30 v35 : Vec Ideal S256x256 .bf16)
  (w0 : ∀ q k, q < 256 → k < 256 → rd2 v26 q k = w (256 * 0 + q) k)
  (w1 : ∀ q k, q < 256 → k < 256 → rd2 v30 q k = w (256 * 1 + q) k)
  (w2 : ∀ q k, q < 256 → k < 256 → rd2 v35 q k = w (256 * 2 + q) k)

include w0 w1 w2

/-- The first layer on the block's 4098 middle rows, masked. -/
theorem pay6_rd (j k : ℕ) (hj : j < 4098) (hk : k < 256) :
    rd2 (k0_pay6 (k0_pay2 i) (k0_pay4 i v0 v2 v4 v26 v30) (k0_pay5 i v0 v2 v4 v35)) j k = y0 X w (t * 4096 + j) k := by
  have e : k0_pay4 i v0 v2 v4 v26 v30 (ix2 ⟨j, hj⟩ ⟨k, hk⟩) + k0_pay5 i v0 v2 v4 v35 (ix2 ⟨j, hj⟩ ⟨k, hk⟩)
      = acc0 X w (t * 4096 + j) k := by
    have d3 := dot3 X i v0 v2 v4 t ht hi h0 h2 h4
    unfold k0_pay4 k0_pay5
    pointwise
    have e0 := d3 v26 w 0 w0 ⟨j, by omega⟩ ⟨k, hk⟩ (t * 4096 + j) k rfl rfl
    have e1 := d3 v30 w 1 w1 ⟨1 + j, by omega⟩ ⟨k, hk⟩ (1 + (t * 4096 + j)) k (by dsimp only; omega) rfl
    have e2 := d3 v35 w 2 w2 ⟨2 + j, by omega⟩ ⟨k, hk⟩ (2 + (t * 4096 + j)) k (by dsimp only; omega) rfl
    unfold acc0
    exact congrArg₂ HAdd.hAdd (congrArg₂ HAdd.hAdd e0 e1) e2
  rw [rd2_in _ j k hj hk]
  unfold k0_pay6 k0_pay2
  pointwise
  rw [hi, mask t (1 + j) ht (by omega), e]
  unfold y0
  have c : (2 ≤ t * 4096 + (1 + j) ∧ t * 4096 + (1 + j) < 32770) ↔ (1 ≤ t * 4096 + j ∧ t * 4096 + j < 32769) := by omega
  simp only [c]

/-- A product of a run of the first layer's rows with a band. -/
theorem dot6 (W : Vec Ideal S256x256 .bf16) (v : ℕ → ℕ → EReal) (o : ℕ)
    (hw : ∀ q k, q < 256 → k < 256 → rd2 W q k = v (256 * o + q) k) (a : Fin 4098) (b : Fin 256) (p k : ℕ)
    (ha : t * 4096 + a.val = p) (hb : b.val = k) :
    ∑ x : Fin 256, k0_pay6 (k0_pay2 i) (k0_pay4 i v0 v2 v4 v26 v30) (k0_pay5 i v0 v2 v4 v35) (ix2 a x) * W (ix2 x b)
      = dot (y0 X w) v p o k := by
  rw [dot_rd (A := 4098) (B := 256) (K := 256) _ W a b a k rfl hb]
  refine Finset.sum_congr rfl fun q hq => ?_
  have hq := Finset.mem_range.1 hq
  rw [pay6_rd X i v0 v2 v4 t ht hi h0 h2 h4 w v26 v30 v35 w0 w1 w2 a q a.isLt hq, hw q k hq (hb ▸ b.isLt), ha]

variable (v : ℕ → ℕ → EReal) (v53 v57 v62 v67 v72 v77 : Vec Ideal S256x256 .bf16)
  (u0 : ∀ q k, q < 256 → k < 256 → rd2 v53 q k = v (256 * 0 + q) k)
  (u1 : ∀ q k, q < 256 → k < 256 → rd2 v57 q k = v (256 * 1 + q) k)
  (u2 : ∀ q k, q < 256 → k < 256 → rd2 v62 q k = v (256 * 2 + q) k)
  (u3 : ∀ q k, q < 256 → k < 256 → rd2 v67 q k = v (256 * 3 + q) k)
  (u4 : ∀ q k, q < 256 → k < 256 → rd2 v72 q k = v (256 * 4 + q) k)
  (u5 : ∀ q k, q < 256 → k < 256 → rd2 v77 q k = v (256 * 5 + q) k)
  (h : ℕ → ℕ → EReal) (v85 v88 : Vec Ideal S256x4 .bf16)
  (g0 : ∀ q k, q < 256 → k < 4 → rd2 v85 q k = h (256 * 0 + q) k)
  (g1 : ∀ q k, q < 256 → k < 4 → rd2 v88 q k = h (256 + q) k)

include u0 u1 u2 u3 u4 u5 g0 g1

/-- The block's result. -/
theorem pay1_rd (j k : ℕ) (hj : j < 4096) (hk : k < 4) :
    rd2 (k0_pay1 (k0_pay3 i v0 v2 v4)
      (k0_pay7 (k0_pay2 i) (k0_pay3 i v0 v2 v4) (k0_pay4 i v0 v2 v4 v26 v30) (k0_pay5 i v0 v2 v4 v35) v53 v57 v62 v67 v72)
      (k0_pay8 (k0_pay2 i) (k0_pay4 i v0 v2 v4 v26 v30) (k0_pay5 i v0 v2 v4 v35)) v77 v85 v88) j k
      = soft (z X w v h (t * 4096 + j) k) := by
  have e : ∀ q (hq : q < 256),
      k0_pay7 (k0_pay2 i) (k0_pay3 i v0 v2 v4) (k0_pay4 i v0 v2 v4 v26 v30) (k0_pay5 i v0 v2 v4 v35) v53 v57 v62 v67 v72 (ix2 ⟨j, hj⟩ ⟨q, hq⟩)
        + ∑ x : Fin 256, k0_pay8 (k0_pay2 i) (k0_pay4 i v0 v2 v4 v26 v30) (k0_pay5 i v0 v2 v4 v35) (ix2 ⟨j, hj⟩ x) * v77 (ix2 x ⟨q, hq⟩)
      = acc1 X w v (t * 4096 + j) q := by
    intro q hq
    have d6 := dot6 X i v0 v2 v4 t ht hi h0 h2 h4 w v26 v30 v35 w0 w1 w2
    have d3 := dot3 X i v0 v2 v4 t ht hi h0 h2 h4
    unfold k0_pay7 k0_pay8
    pointwise
    have e0 := d3 v53 v 0 u0 ⟨1 + j, by omega⟩ ⟨q, hq⟩ (1 + (t * 4096 + j)) q (by dsimp only; omega) rfl
    have e1 := d3 v57 v 1 u1 ⟨2 + j, by omega⟩ ⟨q, hq⟩ (2 + (t * 4096 + j)) q (by dsimp only; omega) rfl
    have e2 := d3 v62 v 2 u2 ⟨3 + j, by omega⟩ ⟨q, hq⟩ (3 + (t * 4096 + j)) q (by dsimp only; omega) rfl
    have e3 := d6 v67 v 3 u3 ⟨j, by omega⟩ ⟨q, hq⟩ (t * 4096 + j) q rfl rfl
    have e4 := d6 v72 v 4 u4 ⟨1 + j, by omega⟩ ⟨q, hq⟩ (1 + (t * 4096 + j)) q (by dsimp only; omega) rfl
    have e5 := d6 v77 v 5 u5 ⟨2 + j, by omega⟩ ⟨q, hq⟩ (2 + (t * 4096 + j)) q (by dsimp only; omega) rfl
    unfold acc1
    exact congrArg₂ HAdd.hAdd (congrArg₂ HAdd.hAdd (congrArg₂ HAdd.hAdd (congrArg₂ HAdd.hAdd (congrArg₂ HAdd.hAdd e0 e1) e2) e3) e4) e5
  have d : ∑ x : Fin 256, k0_pay3 i v0 v2 v4 (ix2 ⟨2 + j, by omega⟩ x) * v85 (ix2 x ⟨k, hk⟩)
      = dot (xc X) h (2 + (t * 4096 + j)) 0 k := by
    rw [dot_rd (A := 4100) (B := 4) (K := 256) _ v85 _ _ (2 + j) k rfl rfl]
    refine Finset.sum_congr rfl fun q hq => ?_
    have hq := Finset.mem_range.1 hq
    rw [pay3_rd X i v0 v2 v4 t ht hi h0 h2 h4 (2 + j) q (by omega) hq, g0 q k hq hk, Nat.add_left_comm (t * 4096) 2]
  have s : ∑ x : Fin 256, max (k0_pay7 (k0_pay2 i) (k0_pay3 i v0 v2 v4) (k0_pay4 i v0 v2 v4 v26 v30) (k0_pay5 i v0 v2 v4 v35) v53 v57 v62 v67 v72 (ix2 ⟨j, hj⟩ x)
        + ∑ y : Fin 256, k0_pay8 (k0_pay2 i) (k0_pay4 i v0 v2 v4 v26 v30) (k0_pay5 i v0 v2 v4 v35) (ix2 ⟨j, hj⟩ y) * v77 (ix2 y x)) 0 * v88 (ix2 x ⟨k, hk⟩)
      = ∑ q ∈ Finset.range 256, max (acc1 X w v (t * 4096 + j) q) 0 * h (256 + q) k := by
    rw [Finset.sum_range]
    exact Finset.sum_congr rfl fun x _ => by rw [e x x.isLt, rd2_of v88 x ⟨k, hk⟩ x k rfl rfl, g1 x k x.isLt hk]
  rw [rd2_in _ j k hj hk]
  unfold k0_pay1
  pointwise
  rw [d, s, if_neg (fun q => q rfl)]
  unfold soft z
  rw [zero_sub]

end Block

end Cert.KernelIdeal.Point
-- ==== Proof.Final.lean ====
/-
  The pallas_call's result array, element by element, over its four input arrays.
-/
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Reader Cert.Model

variable (m : (ℓ : Loc nD τ sig) → Buf (Elt Ideal) ℓ) (c : Dev nD)

/-- Which block of its array each window of the pipeline takes at grid point `t`. -/
theorem idx : ∀ t : Fin cfg0.N, (grid0.coords t 0).val = t.val ∧ win0_0.index t = ![t.val - 1, 0] ∧ win0_1.index t = ![t.val, 0]
    ∧ win0_2.index t = ![min (t.val + 1) 7, 0] ∧ win0_3.index t = ![0, 0] ∧ win0_4.index t = ![0, 0] ∧ win0_5.index t = ![0, 0]
    ∧ win0_6.index t = ![t.val, 0] :=
  (by decide +kernel : ∀ t : Fin grid0.N, _)

/-- The grid has eight points. -/
theorem lt8 (t : Fin cfg0.N) : t.val < 8 := lt_of_lt_of_eq t.isLt N_0

/-- A load of rows `o` to `o + A' - 1` of a matrix, read. -/
theorem ld_rd {A B A' B' : ℕ} (X : Vec Ideal (⟨2, ![A, B]⟩ : Shape) .bf16) (o : ℕ)
    (inb : ∀ a, (![o, 0] : Fin 2 → ℕ) a + (![A', B'] : Fin 2 → ℕ) a ≤ (⟨2, ![A, B]⟩ : Shape).size a) (j q : ℕ) (hj : j < A') (hq : q < B') :
    rd2 (A := A') (B := B') (View.ld (Val := Elt Ideal) (e' := .bf16) X (Rect.unit (s := ⟨2, ![A, B]⟩) ![o, 0] ![A', B'] inb)) j q
      = rd2 X (o + j) q := by
  have h0 : o + A' ≤ A := inb 0
  have h1 : 0 + B' ≤ B := inb 1
  rw [rd2_in _ j q hj hq]
  refine Eq.trans ?_ (rd2_of X ⟨o + j, by omega⟩ ⟨q, by omega⟩ _ _ rfl rfl)
  pointwise
  refine congrArg X (funext fun a => Fin.ext ?_)
  match a with
  | ⟨0, _⟩ => rfl
  | ⟨1, _⟩ => exact Nat.zero_add q

/-- Window 0's block: the block of the packed input before the point's own. -/
theorem blk0 (t : Fin cfg0.N) (j q : ℕ) (hj : j < 4096) (hq : q < 128) :
    rd2 (A := 4096) (B := 128) (iblk m c 0 t) j q = rd2 (A := 32768) (B := 128) (V m c main_v17) ((t.val - 1) * 4096 + j) q := by
  obtain ⟨_, i0, _⟩ := idx t
  have h8 := lt8 t
  rw [rd2_in _ j q hj hq]
  refine Eq.trans ?_ (rd2_of (A := 32768) (B := 128) (V m c main_v17) ⟨(t.val - 1) * 4096 + j, by omega⟩ ⟨q, hq⟩ _ _ rfl rfl)
  blk_ext [iblk, i0]

/-- Window 1's block: the point's own block of the packed input. -/
theorem blk1 (t : Fin cfg0.N) (j q : ℕ) (hj : j < 4096) (hq : q < 128) :
    rd2 (A := 4096) (B := 128) (iblk m c 1 t) j q = rd2 (A := 32768) (B := 128) (V m c main_v17) (t.val * 4096 + j) q := by
  obtain ⟨_, _, i1, _⟩ := idx t
  have h8 := lt8 t
  rw [rd2_in _ j q hj hq]
  refine Eq.trans ?_ (rd2_of (A := 32768) (B := 128) (V m c main_v17) ⟨t.val * 4096 + j, by omega⟩ ⟨q, hq⟩ _ _ rfl rfl)
  blk_ext [iblk, i1]

/-- Window 2's block: the block of the packed input after the point's own. -/
theorem blk2 (t : Fin cfg0.N) (j q : ℕ) (hj : j < 4096) (hq : q < 128) :
    rd2 (A := 4096) (B := 128) (iblk m c 2 t) j q = rd2 (A := 32768) (B := 128) (V m c main_v17) (min (t.val + 1) 7 * 4096 + j) q := by
  obtain ⟨_, _, _, i2, _⟩ := idx t
  have h8 := lt8 t
  rw [rd2_in _ j q hj hq]
  refine Eq.trans ?_ (rd2_of (A := 32768) (B := 128) (V m c main_v17) ⟨min (t.val + 1) 7 * 4096 + j, by omega⟩ ⟨q, hq⟩ _ _ rfl rfl)
  blk_ext [iblk, i2]

/-- Window 3's block: the first filter's bands, whole. -/
theorem blk3 (t : Fin cfg0.N) (j q : ℕ) (hj : j < 768) (hq : q < 256) :
    rd2 (A := 768) (B := 256) (iblk m c 3 t) j q = rd2 (A := 768) (B := 256) (V m c main_v61) j q := by
  obtain ⟨_, _, _, _, i3, _⟩ := idx t
  rw [rd2_in _ j q hj hq, rd2_in _ j q hj hq]
  blk_ext [iblk, i3]

/-- Window 4's block: the second filter's bands, whole. -/
theorem blk4 (t : Fin cfg0.N) (j q : ℕ) (hj : j < 1536) (hq : q < 256) :
    rd2 (A := 1536) (B := 256) (iblk m c 4 t) j q = rd2 (A := 1536) (B := 256) (V m c main_v154) j q := by
  obtain ⟨_, _, _, _, _, i4, _⟩ := idx t
  rw [rd2_in _ j q hj hq, rd2_in _ j q hj hq]
  blk_ext [iblk, i4]

/-- Window 5's block: the head's bands, whole. -/
theorem blk5 (t : Fin cfg0.N) (j q : ℕ) (hj : j < 512) (hq : q < 4) :
    rd2 (A := 512) (B := 4) (iblk m c 5 t) j q = rd2 (A := 512) (B := 4) (V m c main_v169) j q := by
  obtain ⟨_, _, _, _, _, _, i5, _⟩ := idx t
  rw [rd2_in _ j q hj hq, rd2_in _ j q hj hq]
  blk_ext [iblk, i5]

/-- A run of the first filter's bands, as loaded. -/
theorem run3 (t : Fin cfg0.N) (o : ℕ) (inb : ∀ a, (![256 * o, 0] : Fin 2 → ℕ) a + (![256, 256] : Fin 2 → ℕ) a ≤ S768x256.size a) (q k : ℕ)
    (hq : q < 256) (hk : k < 256) :
    rd2 (A := 256) (B := 256) (View.ld (Val := Elt Ideal) (e' := .bf16) (iblk m c 3 t) (Rect.unit (s := S768x256) ![256 * o, 0] ![256, 256] inb)) q k
      = rd2 (A := 768) (B := 256) (V m c main_v61) (256 * o + q) k := by
  have h0 : 256 * o + 256 ≤ 768 := inb 0
  exact (ld_rd (A := 768) (B := 256) (iblk m c 3 t) (256 * o) inb q k hq hk).trans (blk3 m c t _ _ (by omega) hk)

/-- A run of the second filter's bands, as loaded. -/
theorem run4 (t : Fin cfg0.N) (o : ℕ) (inb : ∀ a, (![256 * o, 0] : Fin 2 → ℕ) a + (![256, 256] : Fin 2 → ℕ) a ≤ S1536x256.size a) (q k : ℕ)
    (hq : q < 256) (hk : k < 256) :
    rd2 (A := 256) (B := 256) (View.ld (Val := Elt Ideal) (e' := .bf16) (iblk m c 4 t) (Rect.unit (s := S1536x256) ![256 * o, 0] ![256, 256] inb)) q k
      = rd2 (A := 1536) (B := 256) (V m c main_v154) (256 * o + q) k := by
  have h0 : 256 * o + 256 ≤ 1536 := inb 0
  exact (ld_rd (A := 1536) (B := 256) (iblk m c 4 t) (256 * o) inb q k hq hk).trans (blk4 m c t _ _ (by omega) hk)

/-- A run of the head's bands, as loaded. -/
theorem run5 (t : Fin cfg0.N) (o : ℕ) (inb : ∀ a, (![o, 0] : Fin 2 → ℕ) a + (![256, 4] : Fin 2 → ℕ) a ≤ S512x4.size a) (q k : ℕ)
    (hq : q < 256) (hk : k < 4) :
    rd2 (A := 256) (B := 4) (View.ld (Val := Elt Ideal) (e' := .bf16) (iblk m c 5 t) (Rect.unit (s := S512x4) ![o, 0] ![256, 4] inb)) q k
      = rd2 (A := 512) (B := 4) (V m c main_v169) (o + q) k := by
  have h0 : o + 256 ≤ 512 := inb 0
  exact (ld_rd (A := 512) (B := 4) (iblk m c 5 t) o inb q k hq hk).trans (blk5 m c t _ _ (by omega) hk)

/-- The pallas_call's result array: the closed form at every element. -/
def G : FVec Ideal S32768x4 .f32 := fun i =>
  soft (z (rd2 (A := 32768) (B := 128) (V m c main_v17)) (rd2 (A := 768) (B := 256) (V m c main_v61))
    (rd2 (A := 1536) (B := 256) (V m c main_v154)) (rd2 (A := 512) (B := 4) (V m c main_v169)) (i 0).val (i 1).val)

/-- What a grid point stores at element `j`, `k` of its block. -/
theorem point (t : Fin cfg0.N) (j k : ℕ) (hj : j < 4096) (hk : k < 4) :
    out0_6 (grid0.coords t) (iblk m c 0 t) (iblk m c 1 t) (iblk m c 2 t) (iblk m c 3 t) (iblk m c 4 t) (iblk m c 5 t) (ix2 ⟨j, hj⟩ ⟨k, hk⟩)
      = soft (z (rd2 (A := 32768) (B := 128) (V m c main_v17)) (rd2 (A := 768) (B := 256) (V m c main_v61))
          (rd2 (A := 1536) (B := 256) (V m c main_v154)) (rd2 (A := 512) (B := 4) (V m c main_v169)) (t.val * 4096 + j) k) := by
  have h8 := lt8 t
  unfold_out out0_6
  rw [View.canon_unit_zero (by funext a; fin_cases a <;> rfl)]
  refine (rd2_of (A := 4096) (B := 4) _ ⟨j, hj⟩ ⟨k, hk⟩ j k rfl rfl).trans
    (Point.pay1_rd (rd2 (A := 32768) (B := 128) (V m c main_v17)) (grid0.coords t) _ _ _ t.val h8 (idx t).1
      ?_ ?_ ?_ (rd2 (A := 768) (B := 256) (V m c main_v61)) _ _ _
      (run3 m c t 0 inb_S768x256_S256x256_0_0) (run3 m c t 1 inb_S768x256_S256x256_256_0) (run3 m c t 2 inb_S768x256_S256x256_512_0)
      (rd2 (A := 1536) (B := 256) (V m c main_v154)) _ _ _ _ _ _
      (run4 m c t 0 inb_S1536x256_S256x256_0_0) (run4 m c t 1 inb_S1536x256_S256x256_256_0) (run4 m c t 2 inb_S1536x256_S256x256_512_0)
      (run4 m c t 3 inb_S1536x256_S256x256_768_0) (run4 m c t 4 inb_S1536x256_S256x256_1024_0) (run4 m c t 5 inb_S1536x256_S256x256_1280_0)
      (rd2 (A := 512) (B := 4) (V m c main_v169)) _ _
      (run5 m c t 0 inb_S512x4_S256x4_0_0) (run5 m c t 256 inb_S512x4_S256x4_256_0) j k hj hk)
  · intro j q hj hq ht
    refine (ld_rd (A := 4096) (B := 128) (iblk m c 0 t) 4094 inb_S4096x128_S2x128_4094_0 j q hj hq).trans
      ((blk0 m c t _ _ (by omega) hq).trans ?_)
    rw [show (t.val - 1) * 4096 + (4094 + j) = t.val * 4096 + j - 2 by omega]
  · intro j q hj hq
    refine (ld_rd (A := 4096) (B := 128) (iblk m c 1 t) 0 inb_S4096x128_S4096x128_0_0 j q hj hq).trans
      ((blk1 m c t _ _ (by omega) hq).trans ?_)
    rw [Nat.zero_add]
  · intro j q hj hq ht
    refine (ld_rd (A := 4096) (B := 128) (iblk m c 2 t) 0 inb_S4096x128_S2x128_0_0 j q hj hq).trans
      ((blk2 m c t _ _ (by omega) hq).trans ?_)
    rw [show min (t.val + 1) 7 * 4096 + (0 + j) = t.val * 4096 + 4096 + j by omega]

/-- The pallas_call's result array after the run. -/
theorem final : (dats m 0 c).arrAt 6 cfg0.N = G m c := by
  refine (dats m 0 c).arrAt_eq_of_covers 6 (G m c) (by decide +kernel) fun t _ y => ?_
  obtain ⟨_, _, _, _, _, _, _, i6⟩ := idx t
  blk_simp
  rw [after0_6]
  have h0 : (y 0).val < 4096 := (y 0).isLt
  have h1 : (y 1).val < 4 := (y 1).isLt
  have e : y = ix2 ⟨(y 0).val, h0⟩ ⟨(y 1).val, h1⟩ := by funext a; fin_cases a <;> rfl
  rw [e]
  refine (point m c t _ _ h0 h1).trans ?_
  unfold G
  blk_simp [i6]

end Cert.KernelIdeal.Final
-- ==== Proof.Tail.lean ====
/-
  The kernel program's result: the pallas_call's output array, two rows of the network to each of its rows.
-/
module

public import proofs.«01_k».proof.Proof.Final
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Final Cert.Reader Cert.Model

/-- The output array as the program returns it: each of its rows holds two rows of the result. -/
def unpacked (y : FVec Ideal S32768x4 .f32) : FVec Ideal S1x65536x2 .f32 :=
  broadcastInDim S1x65536x2 ![1, 2] bcast_S65536x2_S1x65536x2_1_2 (shapeCast S65536x2 y shapeCasts_S32768x4_S65536x2)

/-- An element of the returned array. -/
theorem unpacked_rd (y : FVec Ideal S32768x4 .f32) (n k : ℕ) (hn : n < 65536) (hk : k < 2) :
    rd3 (unpacked y) 0 n k = rd2 y (n / 2) (2 * (n % 2) + k) := by
  rw [rd3_in _ 0 n k (by omega) hn hk]
  unfold unpacked
  pointwise
  exact rd2_of _ _ _ _ _ rfl (by dsimp only; omega)

variable (m : (ℓ : Loc nD τ sig) → Buf (Elt Ideal) ℓ) (ρ : Dev nD → PrngReg) (c : Dev nD)

/-- The operations after the pallas_call leave its output array, unpacked, in the result. -/
theorem after_rd : Pipeline.afterTail₀ cfgs (dats m) 0 (V0 m) [hostOps1] c main_v172 = unpacked (G m c) := by
  have e : Pipeline.withArrays (cfgs 0).spec c (V0 m c) (fun w => (dats m 0 c).arrAt w (cfgs 0).N) (Proc.devRef .tc main_v170) = G m c :=
    (Pipeline.withArrays_arr_shared (cfgs 0).spec c (V0 m c) (fun w => (dats m 0 c).arrAt w (cfgs 0).N)
      ((dats m 0 c).arrAt_sharedIn (by decide) (V0 m c) (A_eq m c) (cfgs 0).N) 6).trans (final m c)
  unfold Pipeline.afterTail₀
  after_reads_simp
  rw [e]
  rfl

/-- Every run of the kernel program ends with the unpacked output array in its result and its arguments unchanged. -/
theorem run : θ_run defs (onTc (τ := τ) (main (F := Ideal))) ⟨m, fun _ => 0, ρ⟩ (fun r => ∀ c : Dev nD,
      r.2.mem ((c.tc : Thread nD τ).loc main_v172) = unpacked (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v172 (Pipeline.mem_restRefs_of main_v172 (by decide) (by decide))).trans
      (after_rd m c), h.2 c⟩)
    (θ_run_and (run_main m ρ) (unchanged m ρ))

end Cert.KernelIdeal.Tail
-- ==== Proof.Algebra.lean ====
/-
  The arithmetic the value claim rests on, over the extended reals and free of both programs.

  The kernel replaces the two halves `min(x, 0)` and `max(x, 0)` of every input channel by `x` and `max(x, 0)` and
  changes the weights to match: where the reference adds `min(x, 0) * a + max(x, 0) * b`, the kernel adds
  `x * a + max(x, 0) * (b - a)`. `cancel` is that identity for one channel, `tap` for one tap of a filter (51 channels,
  the bias riding on a channel that is one in every row inside the sequence).
-/
module

public import Idealize.ShloMosaic.PureOps.Ideal.Laws
public import Mathlib.Algebra.BigOperators.Intervals

@[expose] public section

noncomputable section

namespace Cert.Algebra

open Finset

/-- One channel: `x * a + max(x, 0) * (b - a) = min(x, 0) * a + max(x, 0) * b`, for `x` not plus infinity and `a` finite. -/
theorem cancel (x a b : EReal) (hx : x ≠ ⊤) (ha : a ≠ ⊤) (ha' : a ≠ ⊥) :
    x * a + max x 0 * (b + -a) = min x 0 * a + max x 0 * b := by
  rcases le_total x 0 with h | h
  · rw [max_eq_right h, min_eq_left h, zero_mul, zero_mul]
  · rw [max_eq_left h, min_eq_right h, zero_mul, zero_add]
    lift a to ℝ using ⟨ha, ha'⟩
    have hx' : x ≠ ⊥ := fun e => by rw [e] at h; exact absurd h (by simp)
    lift x to ℝ using ⟨hx, hx'⟩
    induction b with
    | coe b => norm_cast; ring
    | top =>
      rcases eq_or_lt_of_le h with e | h
      · rw [← e]; simp
      · rw [← EReal.coe_neg, EReal.top_add_coe, EReal.mul_top_of_pos h]
        rw [← EReal.coe_mul, EReal.coe_add_top]
    | bot =>
      rw [EReal.bot_add]
      rcases eq_or_lt_of_le h with e | h
      · rw [← e]; simp
      · rw [EReal.mul_bot_of_pos h]; simp

/-- The reference's channel `j` of a row `y`: the negative part of channel `j` below 51, the positive part of channel
    `j - 51` from there on. -/
def half (y : ℕ → EReal) (j : ℕ) : EReal := if j < 51 then min (y j) 0 else max (y (j - 51)) 0

/-- One tap of a filter on one row: the row `y` against the weights `n` plus its positive part against the weights `p`
    is the reference's 102 channels against `w`, plus the bias entry `b` on channel 51. -/
theorem tap (y w n p : ℕ → EReal) (b : EReal) (hy : ∀ c < 51, y c ≠ ⊤) (hw : ∀ c < 51, w c ≠ ⊤ ∧ w c ≠ ⊥)
    (hn : ∀ c < 64, n c = if c < 51 then w c else if c = 51 then b else 0)
    (hp : ∀ c < 64, p c = if c < 51 then w (51 + c) + -w c else 0) :
    (∑ c ∈ range 64, y c * n c) + (∑ c ∈ range 64, max (y c) 0 * p c)
      = (∑ j ∈ range 102, half y j * w j) + y 51 * b := by
  have e1 : (∑ c ∈ range 64, y c * n c) = (∑ c ∈ range 51, y c * w c) + y 51 * b := by
    rw [show (64 : ℕ) = 52 + 12 from rfl, sum_range_add, sum_range_succ, sum_eq_zero (s := range 12), add_zero]
    · congr 1
      · refine sum_congr rfl fun c hc => ?_
        have hc := mem_range.mp hc
        rw [hn c (by omega), if_pos hc]
      · rw [hn 51 (by omega)]; simp
    · intro c hc
      have hc := mem_range.mp hc
      rw [hn _ (by omega), if_neg (by omega), if_neg (by omega), mul_zero]
  have e2 : (∑ c ∈ range 64, max (y c) 0 * p c) = ∑ c ∈ range 51, max (y c) 0 * (w (51 + c) + -w c) := by
    rw [show (64 : ℕ) = 51 + 13 from rfl, sum_range_add, sum_eq_zero (s := range 13), add_zero]
    · refine sum_congr rfl fun c hc => ?_
      have hc := mem_range.mp hc
      rw [hp c (by omega), if_pos hc]
    · intro c hc
      have hc := mem_range.mp hc
      rw [hp _ (by omega), if_neg (by omega), mul_zero]
  have e3 : (∑ j ∈ range 102, half y j * w j)
      = (∑ c ∈ range 51, min (y c) 0 * w c) + ∑ c ∈ range 51, max (y c) 0 * w (51 + c) := by
    rw [show (102 : ℕ) = 51 + 51 from rfl, sum_range_add]
    refine congrArg₂ (· + ·) ?_ ?_
    · refine sum_congr rfl fun c hc => ?_
      rw [half, if_pos (mem_range.mp hc)]
    · refine sum_congr rfl fun c hc => ?_
      rw [half, if_neg (by omega), Nat.add_sub_cancel_left]
  rw [e1, e2, e3, add_right_comm, ← sum_add_distrib, ← sum_add_distrib]
  congr 1
  refine sum_congr rfl fun c hc => ?_
  have hc := mem_range.mp hc
  exact cancel _ _ _ (hy c hc) (hw c hc).1 (hw c hc).2

/-- A group row against a column of weights: 256 channels are four runs of 64, the first two the rows `X 0 ..` and
    `X 64 ..` of the pair, the last two their positive parts. -/
theorem group (X W : ℕ → EReal) :
    (∑ q ∈ range 256, (if q < 128 then X q else max (X (q - 128)) 0) * W q)
      = ((∑ c ∈ range 64, X c * W c) + ∑ c ∈ range 64, max (X c) 0 * W (128 + c))
        + ((∑ c ∈ range 64, X (64 + c) * W (64 + c)) + ∑ c ∈ range 64, max (X (64 + c)) 0 * W (192 + c)) := by
  rw [show (256 : ℕ) = 64 + 64 + 64 + 64 from rfl, sum_range_add, sum_range_add, sum_range_add]
  have f1 : (∑ c ∈ range 64, (if c < 128 then X c else max (X (c - 128)) 0) * W c) = ∑ c ∈ range 64, X c * W c :=
    sum_congr rfl fun c hc => by rw [if_pos (by have := mem_range.mp hc; omega)]
  have f2 : (∑ c ∈ range 64, (if 64 + c < 128 then X (64 + c) else max (X (64 + c - 128)) 0) * W (64 + c))
      = ∑ c ∈ range 64, X (64 + c) * W (64 + c) :=
    sum_congr rfl fun c hc => by rw [if_pos (by have := mem_range.mp hc; omega)]
  have f3 : (∑ c ∈ range 64, (if 64 + 64 + c < 128 then X (64 + 64 + c) else max (X (64 + 64 + c - 128)) 0)
      * W (64 + 64 + c)) = ∑ c ∈ range 64, max (X c) 0 * W (128 + c) :=
    sum_congr rfl fun c hc => by rw [if_neg (by omega), show 64 + 64 + c - 128 = c from by omega]
  have f4 : (∑ c ∈ range 64, (if 64 + 64 + 64 + c < 128 then X (64 + 64 + 64 + c)
      else max (X (64 + 64 + 64 + c - 128)) 0) * W (64 + 64 + 64 + c))
      = ∑ c ∈ range 64, max (X (64 + c)) 0 * W (192 + c) :=
    sum_congr rfl fun c hc => by rw [if_neg (by omega), show 64 + 64 + 64 + c - 128 = 64 + c from by omega]
  rw [f1, f2, f3, f4]
  ac_rfl

/-- A run of weights that are all zero adds nothing. -/
theorem sum_zero (y w : ℕ → EReal) {N : ℕ} (h : ∀ c < N, w c = 0) : (∑ c ∈ range N, y c * w c) = 0 :=
  sum_eq_zero fun c hc => by rw [h c (mem_range.mp hc), mul_zero]

/-- A pair of rows of 128 channels against a column of weights, run by run. -/
theorem pair (Y W : ℕ → EReal) :
    (∑ q ∈ range 256, Y q * W q)
      = (∑ k ∈ range 128, Y k * W k) + ∑ k ∈ range 128, Y (128 + k) * W (128 + k) := by
  rw [show (256 : ℕ) = 128 + 128 from rfl, sum_range_add]

end Cert.Algebra
-- ==== Proof.Layers.lean ====
/-
  The network in closed form, as sums of extended reals: what both programs compute.

  `x` is the input (row, channel), `W`, `V` the two filters (tap, channel, output), `H` the head, `b`, `c`, `d` their biases.
  A row of the input is named by its number plus four, so that the rows of zeros before the sequence have names.
-/
module

public import proofs.«01_k».proof.Proof.Algebra
public import proofs.«01_k».proof.Proof.Model

@[expose] public section

noncomputable section

open Idealize.ShloMosaic

namespace Cert.Layers

open Cert.Algebra

/-- Row `u - 4` of the input: zero before and after the sequence. -/
def xr (x : ℕ → ℕ → EReal) (u c : ℕ) : EReal := if 4 ≤ u ∧ u < 65540 then x (u - 4) c else 0

/-- The negative and positive parts of an input row against column `k` of a filter's tap. -/
def lin (x : ℕ → ℕ → EReal) (w : ℕ → ℕ → EReal) (u k : ℕ) : EReal := ∑ j ∈ Finset.range 102, half (xr x u) j * w j k

/-- The first layer at row `n`, before its positive part is taken. -/
def s0 (x : ℕ → ℕ → EReal) (W : ℕ → ℕ → ℕ → EReal) (b : ℕ → EReal) (n k : ℕ) : EReal :=
  lin x (W 0) (n + 3) k + lin x (W 1) (n + 4) k + lin x (W 2) (n + 5) k + b k

/-- The first layer at row `v - 2`: zero before and after the sequence. -/
def f0 (x : ℕ → ℕ → EReal) (W : ℕ → ℕ → ℕ → EReal) (b : ℕ → EReal) (v k : ℕ) : EReal :=
  if 2 ≤ v ∧ v < 65538 then max (s0 x W b (v - 2) k) 0 else 0

/-- One tap of the second layer: row `v - 2` of the input and of the first layer against column `k`. -/
def tap1 (x : ℕ → ℕ → EReal) (W : ℕ → ℕ → ℕ → EReal) (b : ℕ → EReal) (w : ℕ → ℕ → EReal) (v k : ℕ) : EReal :=
  lin x w (v + 2) k + ∑ q ∈ Finset.range 128, f0 x W b v q * w (102 + q) k

/-- The second layer at row `n`, before its positive part is taken. -/
def s1 (x : ℕ → ℕ → EReal) (W : ℕ → ℕ → ℕ → EReal) (b : ℕ → EReal) (V : ℕ → ℕ → ℕ → EReal) (c : ℕ → EReal) (n k : ℕ) : EReal :=
  tap1 x W b (V 0) n k + tap1 x W b (V 1) (n + 1) k + tap1 x W b (V 2) (n + 2) k + tap1 x W b (V 3) (n + 3) k
    + tap1 x W b (V 4) (n + 4) k + c k

/-- The head at row `n`, before its smooth positive part is taken. -/
def zr (x : ℕ → ℕ → EReal) (W : ℕ → ℕ → ℕ → EReal) (b : ℕ → EReal) (V : ℕ → ℕ → ℕ → EReal) (c : ℕ → EReal)
    (H : ℕ → ℕ → EReal) (d : ℕ → EReal) (n k : ℕ) : EReal :=
  lin x H (n + 4) k + (∑ q ∈ Finset.range 128, max (s1 x W b V c n q) 0 * H (102 + q) k) + d k

/-- A row of zeros has zero halves. -/
theorem half_zero (j : ℕ) : half (fun _ => 0) j = 0 := by
  unfold half
  split <;> simp

/-- Inside the sequence, a row named by its number plus four is that row. -/
theorem xr_in (x : ℕ → ℕ → EReal) (n u : ℕ) (hu : u = n + 4) (hn : n < 65536) : xr x u = x n := by
  subst hu
  funext c
  unfold xr
  rw [if_pos (by omega), Nat.add_sub_cancel]

/-- Outside the sequence, a row is zero. -/
theorem xr_out (x : ℕ → ℕ → EReal) (u : ℕ) (hu : ¬(4 ≤ u ∧ u < 65540)) : xr x u = fun _ => 0 := by
  funext c
  exact if_neg hu

end Cert.Layers
-- ==== Proof.Equal.lean ====
/-
  The kernel's closed form over its packed input and its bands is the network's closed form over the input and the filters.
-/
module

public import proofs.«01_k».proof.Proof.Weights
public import proofs.«01_k».proof.Proof.Layers

@[expose] public section

noncomputable section

open Idealize.ShloMosaic Finset

namespace Cert.Equal

open Cert.Algebra Cert.Model Cert.Layers Cert.KernelIdeal.Host

/-- Row `u - 4` of the input as the kernel packs it: 51 channels, a one inside the sequence, and zeros. -/
def row (x : ℕ → ℕ → EReal) (u c : ℕ) : EReal :=
  if c < 51 then xr x u c else if c = 51 then (if 4 ≤ u ∧ u < 65540 then 1 else 0) else 0

/-- The channel that carries the bias is one inside the sequence. -/
theorem row_one (x : ℕ → ℕ → EReal) (u : ℕ) (h : 4 ≤ u ∧ u < 65540) : row x u 51 = 1 := by
  unfold row
  rw [if_neg (by omega), if_pos rfl, if_pos h]

/-- The halves of a packed row are those of the input's row. -/
theorem half_row (x : ℕ → ℕ → EReal) (u j : ℕ) (hj : j < 102) : half (row x u) j = half (xr x u) j := by
  unfold half
  split
  · rw [row, if_pos (by omega)]
  · rw [row, if_pos (by omega)]

/-- A packed row and its positive part against one tap's weights: the row's halves against the tap, and the bias. -/
theorem run_on (x w : ℕ → ℕ → EReal) (b N P : ℕ → EReal) (u k : ℕ) (hx : ∀ n c, x n c ≠ ⊤)
    (hw : ∀ c k, c < 51 → w c k ≠ ⊤ ∧ w c k ≠ ⊥) (hN : ∀ c < 64, N c = negW w b c k) (hP : ∀ c < 64, P c = posW w c k) :
    (∑ c ∈ range 64, row x u c * N c) + (∑ c ∈ range 64, max (row x u c) 0 * P c) = lin x w u k + row x u 51 * b k := by
  rw [tap (row x u) (fun c => w c k) N P (b k) ?_ (fun c hc => hw c k hc) hN hP]
  · unfold lin
    exact congrArg (· + _) (sum_congr rfl fun j hj => by rw [half_row x u j (mem_range.1 hj)])
  · intro c hc
    rw [row, if_pos hc, xr]
    split
    · exact hx _ _
    · exact EReal.zero_ne_top

section Input

variable (X x : ℕ → ℕ → EReal) (hx : ∀ n c, x n c ≠ ⊤)
  (hX : ∀ g r c, g < 32768 → r < 2 → c < 64 → X g (64 * r + c) = if c < 51 then x (2 * g + r) c else if c = 51 then 1 else 0)

include hX

/-- A run of a packed group row is a packed row. -/
theorem xg_row (p r c : ℕ) (hr : r < 2) (hc : c < 64) : xg X p (64 * r + c) = row x (2 * p + r) c := by
  unfold xg row xr
  by_cases h : 2 ≤ p ∧ p < 32770
  · have h' : 4 ≤ 2 * p + r ∧ 2 * p + r < 65540 := by omega
    rw [if_pos h, if_pos h', if_pos h', hX (p - 2) r c (by omega) hr hc, show 2 * (p - 2) + r = 2 * p + r - 4 by omega]
  · have h' : ¬(4 ≤ 2 * p + r ∧ 2 * p + r < 65540) := by omega
    rw [if_neg h, if_neg h', if_neg h', ite_self, ite_self]

include hx

/-- A packed group row and its positive part against a band's column: each run is a tap of the filter or nothing. -/
theorem dotx (w : ℕ → ℕ → EReal) (W : ℕ → ℕ → ℕ → EReal) (B : ℕ → ℕ → EReal) (C : ℕ → Prop) [DecidablePred C] (T : ℕ → ℕ)
    (p o K k : ℕ) (hW : ∀ t c k, c < 51 → W t c k ≠ ⊤ ∧ W t c k ≠ ⊥)
    (hw : ∀ h r c, h < 2 → r < 2 → c < 64 → w (256 * o + (128 * h + (64 * r + c))) K
      = if C r then if h = 0 then negW (W (T r)) (B (T r)) c k else posW (W (T r)) c k else 0) :
    dot (xc X) w p o K
      = (if C 0 then lin x (W (T 0)) (2 * p) k + row x (2 * p) 51 * B (T 0) k else 0)
        + (if C 1 then lin x (W (T 1)) (2 * p + 1) k + row x (2 * p + 1) 51 * B (T 1) k else 0) := by
  have key : ∀ r < 2, (∑ c ∈ range 64, xg X p (64 * r + c) * w (256 * o + (64 * r + c)) K)
      + (∑ c ∈ range 64, max (xg X p (64 * r + c)) 0 * w (256 * o + (128 + (64 * r + c))) K)
      = if C r then lin x (W (T r)) (2 * p + r) k + row x (2 * p + r) 51 * B (T r) k else 0 := by
    intro r hr
    have hn : ∀ c < 64, w (256 * o + (64 * r + c)) K = if C r then negW (W (T r)) (B (T r)) c k else 0 := fun c hc => by
      have e := hw 0 r c (by omega) hr hc
      rwa [Nat.mul_zero, Nat.zero_add, if_pos rfl] at e
    have hp : ∀ c < 64, w (256 * o + (128 + (64 * r + c))) K = if C r then posW (W (T r)) c k else 0 := fun c hc => by
      have e := hw 1 r c (by omega) hr hc
      rwa [Nat.mul_one, if_neg Nat.one_ne_zero] at e
    have e1 : (∑ c ∈ range 64, xg X p (64 * r + c) * w (256 * o + (64 * r + c)) K)
        = ∑ c ∈ range 64, row x (2 * p + r) c * w (256 * o + (64 * r + c)) K :=
      sum_congr rfl fun c hc => by rw [xg_row X x hX p r c hr (mem_range.1 hc)]
    have e2 : (∑ c ∈ range 64, max (xg X p (64 * r + c)) 0 * w (256 * o + (128 + (64 * r + c))) K)
        = ∑ c ∈ range 64, max (row x (2 * p + r) c) 0 * w (256 * o + (128 + (64 * r + c))) K :=
      sum_congr rfl fun c hc => by rw [xg_row X x hX p r c hr (mem_range.1 hc)]
    rw [e1, e2]
    by_cases h : C r
    · simp only [if_pos h] at hn hp ⊢
      exact run_on x (W (T r)) (B (T r)) _ _ (2 * p + r) k hx (hW (T r)) hn hp
    · simp only [if_neg h] at hn hp ⊢
      rw [sum_zero _ _ hn, sum_zero _ _ hp, add_zero]
  unfold dot xc
  refine (group (xg X p) (fun q => w (256 * o + q) K)).trans (congrArg₂ _ (Eq.trans ?_ (key 0 (by omega)))
    (Eq.trans ?_ (key 1 (by omega))))
  · simp only [Nat.mul_zero, Nat.zero_add]
  · refine congrArg₂ _ rfl (sum_congr rfl fun c _ => ?_)
    rw [show 128 + (64 * 1 + c) = 192 + c by omega]

variable (W V : ℕ → ℕ → ℕ → EReal) (H : ℕ → ℕ → EReal) (b c d : ℕ → EReal) (w v h : ℕ → ℕ → EReal)
  (hW : ∀ t c k, c < 51 → W t c k ≠ ⊤ ∧ W t c k ≠ ⊥) (hV : ∀ t c k, c < 51 → V t c k ≠ ⊤ ∧ V t c k ≠ ⊥)
  (hH : ∀ c k, c < 51 → H c k ≠ ⊤ ∧ H c k ≠ ⊥)
  (hw : ∀ o e r q s k, o < 3 → e < 2 → r < 2 → q < 64 → s < 2 → k < 128 →
    w (256 * o + (128 * e + (64 * r + q))) (128 * s + k)
      = if s + 1 ≤ 2 * o + r ∧ 2 * o + r < s + 4 then
          if e = 0 then negW (W (2 * o + r - s - 1)) (if 2 * o + r - s - 1 = 1 then b else 0) q k
          else posW (W (2 * o + r - s - 1)) q k
        else 0)
  (hv : ∀ o e r q s k, o < 3 → e < 2 → r < 2 → q < 64 → s < 2 → k < 128 →
    v (256 * o + (128 * e + (64 * r + q))) (128 * s + k)
      = if s ≤ 2 * o + r ∧ 2 * o + r < s + 5 then
          if e = 0 then negW (V (2 * o + r - s)) (if 2 * o + r - s = 2 then c else 0) q k else posW (V (2 * o + r - s)) q k
        else 0)
  (hvy : ∀ o r q s k, o < 3 → r < 2 → q < 128 → s < 2 → k < 128 →
    v (768 + (256 * o + (128 * r + q))) (128 * s + k)
      = if s ≤ 2 * o + r ∧ 2 * o + r < s + 5 then V (2 * o + r - s) (102 + q) k else 0)
  (hh : ∀ e r q s k, e < 2 → r < 2 → q < 64 → s < 2 → k < 2 →
    h (128 * e + (64 * r + q)) (2 * s + k) = if r = s then if e = 0 then negW H d q k else posW H q k else 0)
  (hhy : ∀ r q s k, r < 2 → q < 128 → s < 2 → k < 2 →
    h (256 + (128 * r + q)) (2 * s + k) = if r = s then H (102 + q) k else 0)

include hW hw

/-- The first layer of the kernel is the network's. -/
theorem acc0_eq (m s k : ℕ) (hm : m < 32768) (hs : s < 2) (hk : k < 128) :
    acc0 X w (m + 1) (128 * s + k) = s0 x W b (2 * m + s) k := by
  have e := fun p o (ho : o < 3) => dotx X x hx hX w W (fun t => if t = 1 then b else 0)
    (fun r => s + 1 ≤ 2 * o + r ∧ 2 * o + r < s + 4) (fun r => 2 * o + r - s - 1) p o (128 * s + k) k hW
    (fun e r q he hr hq => hw o e r q s k ho he hr hq hs hk)
  unfold acc0 s0
  rw [e (m + 1) 0 (by omega), e (1 + (m + 1)) 1 (by omega), e (2 + (m + 1)) 2 (by omega)]
  rw [show 2 * (m + 1) = 2 * m + 2 by omega, show 2 * (1 + (m + 1)) = 2 * m + 4 by omega,
    show 2 * (2 + (m + 1)) = 2 * m + 6 by omega]
  obtain rfl | rfl : s = 0 ∨ s = 1 := by omega
  · simp [Nat.add_assoc, row_one x (2 * m + 4) (by omega)]
    abel
  · simp [Nat.add_assoc, row_one x (2 * m + 5) (by omega)]
    abel

/-- The first layer of the kernel, with its rows of zeros, is the network's. -/
theorem y0_eq (p r q : ℕ) (hr : r < 2) (hq : q < 128) : y0 X w p (128 * r + q) = f0 x W b (2 * p + r) q := by
  unfold y0 f0
  by_cases i : 1 ≤ p ∧ p < 32769
  · obtain ⟨m, rfl⟩ : ∃ m, p = m + 1 := ⟨p - 1, by omega⟩
    rw [if_pos i, if_pos (by omega), acc0_eq X x hx hX W b w hW hw m r q (by omega) hr hq,
      show 2 * (m + 1) + r - 2 = 2 * m + r by omega]
  · rw [if_neg i, if_neg (by omega)]

/-- A group row of the first layer against a band's column: each run is a tap of the second filter or nothing. -/
theorem doty (u : ℕ → ℕ → EReal) (C : ℕ → Prop) [DecidablePred C] (T : ℕ → ℕ) (p o K k : ℕ)
    (hu : ∀ r q, r < 2 → q < 128 → u (256 * o + (128 * r + q)) K = if C r then V (T r) (102 + q) k else 0) :
    dot (y0 X w) u p o K
      = (if C 0 then ∑ q ∈ range 128, f0 x W b (2 * p) q * V (T 0) (102 + q) k else 0)
        + (if C 1 then ∑ q ∈ range 128, f0 x W b (2 * p + 1) q * V (T 1) (102 + q) k else 0) := by
  have key : ∀ r < 2, (∑ q ∈ range 128, y0 X w p (128 * r + q) * u (256 * o + (128 * r + q)) K)
      = if C r then ∑ q ∈ range 128, f0 x W b (2 * p + r) q * V (T r) (102 + q) k else 0 := by
    intro r hr
    by_cases i : C r
    · rw [if_pos i]
      refine sum_congr rfl fun q hq => ?_
      have hq := mem_range.1 hq
      rw [y0_eq X x hx hX W b w hW hw p r q hr hq, hu r q hr hq, if_pos i]
    · rw [if_neg i]
      exact sum_zero _ _ fun q hq => by rw [hu r q hr hq, if_neg i]
  unfold dot
  refine (pair _ _).trans (congrArg₂ _ (Eq.trans ?_ (key 0 (by omega))) (key 1 (by omega)))
  simp only [Nat.mul_zero, Nat.zero_add]

include hV hv hvy

/-- The second layer of the kernel is the network's. -/
theorem acc1_eq (g s k : ℕ) (hg : g < 32768) (hs : s < 2) (hk : k < 128) :
    acc1 X w v g (128 * s + k) = s1 x W b V c (2 * g + s) k := by
  have e := fun p o (ho : o < 3) => dotx X x hx hX v V (fun t => if t = 2 then c else 0)
    (fun r => s ≤ 2 * o + r ∧ 2 * o + r < s + 5) (fun r => 2 * o + r - s) p o (128 * s + k) k hV
    (fun e r q he hr hq => hv o e r q s k ho he hr hq hs hk)
  have f := fun p o (ho : o < 3) => doty X x hx hX W V b w hW hw v
    (fun r => s ≤ 2 * o + r ∧ 2 * o + r < s + 5) (fun r => 2 * o + r - s) p (3 + o) (128 * s + k) k
    (fun r q hr hq => by rw [← hvy o r q s k ho hr hq hs hk, show 256 * (3 + o) = 768 + 256 * o by omega, Nat.add_assoc])
  unfold acc1 s1 tap1
  rw [e (1 + g) 0 (by omega), e (2 + g) 1 (by omega), e (3 + g) 2 (by omega), f g 0 (by omega), f (1 + g) 1 (by omega),
    f (2 + g) 2 (by omega)]
  rw [show 2 * (1 + g) = 2 * g + 2 by omega, show 2 * (2 + g) = 2 * g + 4 by omega, show 2 * (3 + g) = 2 * g + 6 by omega]
  obtain rfl | rfl : s = 0 ∨ s = 1 := by omega
  · simp [Nat.add_assoc, row_one x (2 * g + 4) (by omega)]
    abel
  · simp [Nat.add_assoc, row_one x (2 * g + 5) (by omega)]
    abel

include hH hh hhy

/-- The head of the kernel is the network's. -/
theorem z_eq (g s k : ℕ) (hg : g < 32768) (hs : s < 2) (hk : k < 2) :
    z X w v h g (2 * s + k) = zr x W b V c H d (2 * g + s) k := by
  have e := dotx X x hx hX h (fun _ => H) (fun _ => d) (fun r => r = s) (fun _ => 0) (2 + g) 0 (2 * s + k) k (fun _ => hH)
    (fun e r q he hr hq => by rw [Nat.mul_zero, Nat.zero_add]; exact hh e r q s k he hr hq hs hk)
  have key : ∀ r < 2, (∑ q ∈ range 128, max (acc1 X w v g (128 * r + q)) 0 * h (256 + (128 * r + q)) (2 * s + k))
      = if r = s then ∑ q ∈ range 128, max (s1 x W b V c (2 * g + r) q) 0 * H (102 + q) k else 0 := by
    intro r hr
    by_cases i : r = s
    · rw [if_pos i]
      refine sum_congr rfl fun q hq => ?_
      have hq := mem_range.1 hq
      rw [acc1_eq X x hx hX W V b c w v hW hV hw hv hvy g r q hg hr hq, hhy r q s k hr hq hs hk, if_pos i]
    · rw [if_neg i]
      exact sum_zero _ _ fun q hq => by rw [hhy r q s k hr hq hs hk, if_neg i]
  have k0 := key 0 (by omega)
  have k1 := key 1 (by omega)
  simp only [Nat.mul_zero, Nat.zero_add, Nat.mul_one] at k0 k1
  unfold z zr
  rw [e, pair, k0, k1, show 2 * (2 + g) = 2 * g + 4 by omega]
  obtain rfl | rfl : s = 0 ∨ s = 1 := by omega
  · simp [Nat.add_assoc, row_one x (2 * g + 4) (by omega)]
    abel
  · simp [Nat.add_assoc, row_one x (2 * g + 5) (by omega)]
    abel

end Input

end Cert.Equal
-- ==== Proof.Finite.lean ====
/-
  What the precondition says of the arguments' elements.
-/
module

public import proofs.«01_k».proof.Defs
public import proofs.«01_k».proof.Proof.Reader
public import Idealize.ShloMosaic.Lib.Pipeline.ValueKit
public import Idealize.ShloMosaic.Lib.Decide

@[expose] public section

set_option maxRecDepth 16384

noncomputable section

open Idealize.ShloMosaic Idealize.SL.Sem

namespace Cert.Finite

open Cert.Pre_cancels Cert.Reader

/-- The shapes the precondition's operations take are those they ask for. -/
theorem facts : Cert.Pre_cancels.Facts where
  bcast_S_S1x65536x51 := by decide +kernel
  slices_S3x102x128_S3x51x128_0_0_0 := by decide +kernel
  bcast_S_S3x51x128 := by decide +kernel
  slices_S5x230x128_S5x51x128_0_0_0 := by decide +kernel
  bcast_S_S5x51x128 := by decide +kernel
  slices_S230x2_S51x2_0_0 := by decide +kernel
  bcast_S_S51x2 := by decide +kernel

/-- A word that is one tells that the comparison it holds is true. -/
theorem of_word (a b : EReal) (e : BitVec.ofBool (decide (a < b)) = 1#1) : a < b := by
  by_contra h
  rw [decide_eq_false h] at e
  exact absurd e (by decide)

/-- A number whose magnitude is below something is finite. -/
theorem finite_of (a b : EReal) (e : BitVec.ofBool (decide (FloatOps.absf (F := Ideal) (φ := .f32) a < b)) = 1#1) :
    a ≠ ⊤ ∧ a ≠ ⊥ := by
  have l : max a (-a) < b := of_word _ _ e
  refine ⟨ne_top_of_lt (lt_of_le_of_lt (le_max_left a (-a)) l), fun q => ?_⟩
  have t := ne_top_of_lt (lt_of_le_of_lt (le_max_right a (-a)) l)
  rw [q] at t
  exact t EReal.neg_bot

section Read

variable [Cert.Pre_cancels.Facts] (x0 : FVec Ideal S1x65536x51 .f32) (x1 : FVec Ideal S3x102x128 .f32) (x2 : FVec Ideal S128 .f32)
  (x3 : FVec Ideal S5x230x128 .f32) (x4 : FVec Ideal S128 .f32) (x5 : FVec Ideal S230x2 .f32) (x6 : FVec Ideal S2 .f32)

/-- No element of the input is infinite upwards. -/
theorem input (h : (fn (F := Ideal) x0 x1 x2 x3 x4 x5 x6).1 = fun _ => 1#1) (n c : ℕ) : rd3 x0 0 n c ≠ ⊤ := by
  unfold rd3
  split
  · rename_i i
    have e := congrFun h (ix3 ⟨0, i.1⟩ ⟨n, i.2.1⟩ ⟨c, i.2.2⟩)
    revert e
    unfold fn
    pointwise
    exact fun e => ne_top_of_lt (of_word _ _ e)
  · exact EReal.zero_ne_top

/-- The first filter is finite on the first 51 channels. -/
theorem filter0 (h : (fn (F := Ideal) x0 x1 x2 x3 x4 x5 x6).2.1 = fun _ => 1#1) (t c k : ℕ) (hc : c < 51) :
    rd3 x1 t c k ≠ ⊤ ∧ rd3 x1 t c k ≠ ⊥ := by
  unfold rd3
  split
  · rename_i i
    have e := congrFun h (ix3 ⟨t, i.1⟩ ⟨c, hc⟩ ⟨k, i.2.2⟩)
    revert e
    unfold fn
    pointwise
    exact finite_of _ _
  · exact ⟨EReal.zero_ne_top, EReal.zero_ne_bot⟩

/-- The second filter is finite on the first 51 channels. -/
theorem filter1 (h : (fn (F := Ideal) x0 x1 x2 x3 x4 x5 x6).2.2.1 = fun _ => 1#1) (t c k : ℕ) (hc : c < 51) :
    rd3 x3 t c k ≠ ⊤ ∧ rd3 x3 t c k ≠ ⊥ := by
  unfold rd3
  split
  · rename_i i
    have e := congrFun h (ix3 ⟨t, i.1⟩ ⟨c, hc⟩ ⟨k, i.2.2⟩)
    revert e
    unfold fn
    pointwise
    exact finite_of _ _
  · exact ⟨EReal.zero_ne_top, EReal.zero_ne_bot⟩

/-- The head is finite on the first 51 channels. -/
theorem head (h : (fn (F := Ideal) x0 x1 x2 x3 x4 x5 x6).2.2.2 = fun _ => 1#1) (c k : ℕ) (hc : c < 51) :
    rd2 x5 c k ≠ ⊤ ∧ rd2 x5 c k ≠ ⊥ := by
  unfold rd2
  split
  · rename_i i
    have e := congrFun h (ix2 ⟨c, hc⟩ ⟨k, i.2⟩)
    revert e
    unfold fn
    pointwise
    exact finite_of _ _
  · exact ⟨EReal.zero_ne_top, EReal.zero_ne_bot⟩

end Read

end Cert.Finite
-- ==== Proof.Reference.lean ====
/-
  The reference program's result at an index, in the closed form of `Layers`.
-/
module

public import proofs.«01_k».proof.Defs
public import proofs.«01_k».proof.Proof.Gen.ReferenceIdeal.Read
public import proofs.«01_k».proof.Proof.Reader
public import proofs.«01_k».proof.Proof.Layers
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Cert.Reader Cert.Model Cert.Layers Cert.Algebra

variable (x0 : FVec Ideal S1x65536x51 .f32) (x1 : FVec Ideal S3x102x128 .f32) (x2 : FVec Ideal S128 .f32)
  (x3 : FVec Ideal S5x230x128 .f32) (x4 : FVec Ideal S128 .f32) (x5 : FVec Ideal S230x2 .f32) (x6 : FVec Ideal S2 .f32)

/-- The number the padding converts is zero. -/
theorem zero_word : FloatOps.sitofp (F := Ideal) FTy.f32 0#32 = (0 : EReal) := by
  simp [FloatOps.sitofp]

/-- A row of the input's negative parts beside its positive parts. -/
theorem v5_rd (n j : ℕ) (hn : n < 65536) (hj : j < 102) :
    rd2 (val_main_v5 (F := Ideal) x0) n j = half (rd3 x0 0 n) j := by
  rw [rd2_in _ n j hn hj]
  unfold val_main_v5 val_main_v2 val_main_v4 val_main_v0 val_main_v1 val_main_v3 val_main_cst val_main_cst_0
  pointwise
  unfold half
  by_cases h : j < 51
  · refine (dif_pos h).trans (Eq.trans ?_ (if_pos h).symm)
    exact congrArg (min · 0) (rd3_of _ _ _ _ 0 n j rfl rfl rfl)
  · refine (dif_neg h).trans (Eq.trans ?_ (if_neg h).symm)
    exact congrArg (max · 0) (rd3_of _ _ _ _ 0 n (j - 51) rfl rfl rfl)

/-- The same with one row of zeros before and after. -/
theorem v6_rd (i j : ℕ) (hi : i < 65538) (hj : j < 102) :
    rd2 (val_main_v6 (F := Ideal) x0) i j = half (xr (rd3 x0 0) (i + 3)) j := by
  rw [rd2_in _ i j hi hj]
  unfold val_main_v6 val_main_call0_v0 val_main_c
  pointwise
  by_cases h : 1 ≤ i ∧ i < 65537
  · rw [xr_in (rd3 x0 0) (i - 1) (i + 3) (by omega) (by omega), ← v5_rd x0 (i - 1) j (by omega) hj]
    exact (dif_pos ⟨⟨h.1, by omega⟩, hj⟩).trans (rd2_of _ _ _ _ _ rfl rfl)
  · rw [xr_out (rd3 x0 0) (i + 3) (by omega), half_zero]
    exact (dif_neg (fun q => h ⟨q.1.1, by omega⟩)).trans zero_word

/-- Rows of the padded input against one tap of the first filter. -/
theorem dot6 (t i : ℕ) (a : Fin 65538) (b : Fin 128) (tt : Fin 3) (k : ℕ) (ha : a.val = i) (hb : b.val = k) (ht : tt.val = t) :
    ∑ x : Fin 102, val_main_v6 (F := Ideal) x0 (ix2 a x) * x1 (ix3 tt x b) = lin (rd3 x0 0) (rd3 x1 t) (i + 3) k := by
  unfold lin
  rw [Finset.sum_range]
  refine Finset.sum_congr rfl fun x _ => ?_
  rw [rd2_of (val_main_v6 (F := Ideal) x0) a x i x ha rfl, rd3_of x1 tt x b t x k ht rfl hb, v6_rd x0 i x (ha ▸ a.isLt) x.isLt]

/-- The first layer, before its positive part is taken. -/
theorem v23_rd (n k : ℕ) (hn : n < 65536) (hk : k < 128) :
    rd2 (val_main_v23 (F := Ideal) x0 x1 x2) n k = s0 (rd3 x0 0) (rd3 x1) (rd1 x2) n k := by
  rw [rd2_in _ n k hn hk]
  unfold val_main_v23 val_main_v20 val_main_v15 val_main_v10 val_main_v14 val_main_v19 val_main_v7 val_main_v11 val_main_v16
    val_main_v9 val_main_v13 val_main_v18 val_main_v8 val_main_v12 val_main_v17 val_main_v22 val_main_v21
  pointwise
  have e0 := dot6 x0 x1 0 n ⟨n, by omega⟩ ⟨k, hk⟩ 0 k rfl rfl rfl
  have e1 := dot6 x0 x1 1 (n + 1) ⟨1 + n, by omega⟩ ⟨k, hk⟩ 1 k (by dsimp only; omega) rfl rfl
  have e2 := dot6 x0 x1 2 (n + 2) ⟨2 + n, by omega⟩ ⟨k, hk⟩ 2 k (by dsimp only; omega) rfl rfl
  unfold s0
  exact congrArg₂ HAdd.hAdd (congrArg₂ HAdd.hAdd (congrArg₂ HAdd.hAdd e0 e1) e2) (rd1_of _ _ _ rfl)

/-- The input's halves beside the first layer. -/
theorem v25_rd (n j : ℕ) (hn : n < 65536) (hj : j < 230) :
    rd2 (val_main_v25 (F := Ideal) x0 x1 x2) n j
      = if j < 102 then half (rd3 x0 0 n) j else max (s0 (rd3 x0 0) (rd3 x1) (rd1 x2) n (j - 102)) 0 := by
  rw [rd2_in _ n j hn hj]
  unfold val_main_v25 val_main_v24 val_main_call1_v0 val_main_call1_cst
  pointwise
  by_cases h : j < 102
  · refine (dif_pos h).trans (Eq.trans ?_ (if_pos h).symm)
    exact (rd2_of _ _ _ n j rfl rfl).trans (v5_rd x0 n j hn h)
  · refine (dif_neg h).trans (Eq.trans ?_ (if_neg h).symm)
    exact congrArg (max · 0) ((rd2_of _ _ _ n (j - 102) rfl rfl).trans (v23_rd x0 x1 x2 n (j - 102) hn (by omega)))

/-- The same with two rows of zeros before and after. -/
theorem v26_rd (v j : ℕ) (hv : v < 65540) (hj : j < 230) :
    rd2 (val_main_v26 (F := Ideal) x0 x1 x2) v j
      = if j < 102 then half (xr (rd3 x0 0) (v + 2)) j else f0 (rd3 x0 0) (rd3 x1) (rd1 x2) v (j - 102) := by
  rw [rd2_in _ v j hv hj]
  unfold val_main_v26 val_main_call2_v0 val_main_c_1
  pointwise
  unfold f0
  by_cases h : 2 ≤ v ∧ v < 65538
  · rw [xr_in (rd3 x0 0) (v - 2) (v + 2) (by omega) (by omega), if_pos h, ← v25_rd x0 x1 x2 (v - 2) j (by omega) hj]
    exact (dif_pos ⟨⟨h.1, by omega⟩, hj⟩).trans (rd2_of _ _ _ _ _ rfl rfl)
  · rw [xr_out (rd3 x0 0) (v + 2) (by omega), half_zero, if_neg h, ite_self]
    exact (dif_neg (fun q => h ⟨q.1.1, by omega⟩)).trans zero_word

/-- A sum over 230 channels is one over the input's 102 halves and one over the layer's 128 channels. -/
theorem split230 (Y W : ℕ → EReal) (P Q : ℕ → EReal) (h : ∀ j < 230, Y j = if j < 102 then P j else Q (j - 102)) :
    ∑ j ∈ Finset.range 230, Y j * W j
      = (∑ j ∈ Finset.range 102, P j * W j) + ∑ q ∈ Finset.range 128, Q q * W (102 + q) := by
  rw [show (230 : ℕ) = 102 + 128 from rfl, Finset.sum_range_add]
  refine congrArg₂ _ (Finset.sum_congr rfl fun j hj => ?_) (Finset.sum_congr rfl fun q hq => ?_)
  · have hj := Finset.mem_range.1 hj
    rw [h j (by omega), if_pos hj]
  · have hq := Finset.mem_range.1 hq
    rw [h (102 + q) (by omega), if_neg (by omega), Nat.add_sub_cancel_left]

/-- Rows of the padded second input against one tap of the second filter. -/
theorem dot26 (t v : ℕ) (a : Fin 65540) (b : Fin 128) (tt : Fin 5) (k : ℕ) (ha : a.val = v) (hb : b.val = k) (ht : tt.val = t) :
    ∑ x : Fin 230, val_main_v26 (F := Ideal) x0 x1 x2 (ix2 a x) * x3 (ix3 tt x b)
      = tap1 (rd3 x0 0) (rd3 x1) (rd1 x2) (rd3 x3 t) v k := by
  unfold tap1 lin
  rw [← split230 (fun j => rd2 (val_main_v26 (F := Ideal) x0 x1 x2) v j) (fun j => rd3 x3 t j k) _ _
    (fun j hj => v26_rd x0 x1 x2 v j (ha ▸ a.isLt) hj), Finset.sum_range]
  exact Finset.sum_congr rfl fun x _ => by rw [rd2_of (val_main_v26 (F := Ideal) x0 x1 x2) a x v x ha rfl,
    rd3_of x3 tt x b t x k ht rfl hb]

/-- The second layer, before its positive part is taken. -/
theorem v53_rd (n k : ℕ) (hn : n < 65536) (hk : k < 128) :
    rd2 (val_main_v53 (F := Ideal) x0 x1 x2 x3 x4) n k = s1 (rd3 x0 0) (rd3 x1) (rd1 x2) (rd3 x3) (rd1 x4) n k := by
  rw [rd2_in _ n k hn hk]
  unfold val_main_v53 val_main_v50 val_main_v45 val_main_v40 val_main_v35 val_main_v30 val_main_v34 val_main_v39 val_main_v44
    val_main_v49 val_main_v27 val_main_v31 val_main_v36 val_main_v41 val_main_v46 val_main_v29 val_main_v33 val_main_v38
    val_main_v43 val_main_v48 val_main_v28 val_main_v32 val_main_v37 val_main_v42 val_main_v47 val_main_v52 val_main_v51
  pointwise
  have d := dot26 x0 x1 x2 x3
  have e0 := d 0 n ⟨n, by omega⟩ ⟨k, hk⟩ 0 k rfl rfl rfl
  have e1 := d 1 (n + 1) ⟨1 + n, by omega⟩ ⟨k, hk⟩ 1 k (by dsimp only; omega) rfl rfl
  have e2 := d 2 (n + 2) ⟨2 + n, by omega⟩ ⟨k, hk⟩ 2 k (by dsimp only; omega) rfl rfl
  have e3 := d 3 (n + 3) ⟨3 + n, by omega⟩ ⟨k, hk⟩ 3 k (by dsimp only; omega) rfl rfl
  have e4 := d 4 (n + 4) ⟨4 + n, by omega⟩ ⟨k, hk⟩ 4 k (by dsimp only; omega) rfl rfl
  unfold s1
  exact congrArg₂ HAdd.hAdd (congrArg₂ HAdd.hAdd (congrArg₂ HAdd.hAdd (congrArg₂ HAdd.hAdd (congrArg₂ HAdd.hAdd e0 e1) e2) e3) e4)
    (rd1_of _ _ _ rfl)

/-- The input's halves beside the second layer. -/
theorem v55_rd (n j : ℕ) (hn : n < 65536) (hj : j < 230) :
    rd2 (val_main_v55 (F := Ideal) x0 x1 x2 x3 x4) n j
      = if j < 102 then half (xr (rd3 x0 0) (n + 4)) j
        else max (s1 (rd3 x0 0) (rd3 x1) (rd1 x2) (rd3 x3) (rd1 x4) n (j - 102)) 0 := by
  rw [rd2_in _ n j hn hj, xr_in (rd3 x0 0) n (n + 4) rfl hn]
  unfold val_main_v55 val_main_v54 val_main_call3_v0 val_main_call3_cst
  pointwise
  by_cases h : j < 102
  · refine (dif_pos h).trans (Eq.trans ?_ (if_pos h).symm)
    exact (rd2_of _ _ _ n j rfl rfl).trans (v5_rd x0 n j hn h)
  · refine (dif_neg h).trans (Eq.trans ?_ (if_neg h).symm)
    exact congrArg (max · 0) ((rd2_of _ _ _ n (j - 102) rfl rfl).trans (v53_rd x0 x1 x2 x3 x4 n (j - 102) hn (by omega)))

/-- The head, before its smooth positive part is taken. -/
theorem v59_rd (n k : ℕ) (hn : n < 65536) (hk : k < 2) :
    rd2 (val_main_v59 (F := Ideal) x0 x1 x2 x3 x4 x5 x6) n k
      = zr (rd3 x0 0) (rd3 x1) (rd1 x2) (rd3 x3) (rd1 x4) (rd2 x5) (rd1 x6) n k := by
  have e : ∑ x : Fin 230, val_main_v55 (F := Ideal) x0 x1 x2 x3 x4 (ix2 ⟨n, hn⟩ x) * x5 (ix2 x ⟨k, hk⟩)
      = lin (rd3 x0 0) (rd2 x5) (n + 4) k
        + ∑ q ∈ Finset.range 128, max (s1 (rd3 x0 0) (rd3 x1) (rd1 x2) (rd3 x3) (rd1 x4) n q) 0 * rd2 x5 (102 + q) k := by
    unfold lin
    rw [← split230 (fun j => rd2 (val_main_v55 (F := Ideal) x0 x1 x2 x3 x4) n j) (fun j => rd2 x5 j k) _ _
      (fun j hj => v55_rd x0 x1 x2 x3 x4 n j hn hj), Finset.sum_range]
    exact Finset.sum_congr rfl fun x _ => by rw [rd2_of (val_main_v55 (F := Ideal) x0 x1 x2 x3 x4) _ x n x rfl rfl,
      rd2_of x5 x _ x k rfl rfl]
  rw [rd2_in _ n k hn hk]
  unfold val_main_v59 val_main_v56 val_main_v58 val_main_v57
  pointwise
  unfold zr
  exact congrArg₂ HAdd.hAdd e (rd1_of _ _ _ rfl)

/-- The result is the smooth positive part of the head. -/
theorem v60_rd (n k : ℕ) (hn : n < 65536) (hk : k < 2) :
    rd2 (val_main_v60 (F := Ideal) x0 x1 x2 x3 x4 x5 x6) n k
      = soft (zr (rd3 x0 0) (rd3 x1) (rd1 x2) (rd3 x3) (rd1 x4) (rd2 x5) (rd1 x6) n k) := by
  rw [← v59_rd x0 x1 x2 x3 x4 x5 x6 n k hn hk, rd2_in _ n k hn hk, rd2_in _ n k hn hk]
  unfold val_main_v60 val_main_call4_v4 val_main_call4_v6 val_main_call4_v11 val_main_call4_v1 val_main_call4_v10
    val_main_call4_v9 val_main_call4_v8 val_main_call4_v7 val_main_call4_v3 val_main_call4_v2 val_main_call4_v0
    val_main_call4_v5 val_main_call4_cst
  pointwise
  exact if_neg fun q => q rfl

/-- The reference program's result at an index. -/
theorem v61_rd (n k : ℕ) (hn : n < 65536) (hk : k < 2) :
    rd3 (val_main_v61 (F := Ideal) x0 x1 x2 x3 x4 x5 x6) 0 n k = soft (zr (rd3 x0 0) (rd3 x1) (rd1 x2) (rd3 x3) (rd1 x4) (rd2 x5) (rd1 x6) n k) := by
  rw [rd3_in _ 0 n k (by omega) hn hk]
  unfold val_main_v61
  pointwise
  exact (rd2_of _ _ _ n k rfl rfl).trans (v60_rd x0 x1 x2 x3 x4 x5 x6 n k hn hk)

section Run

variable (m : (ℓ : Loc nD τ sig) → Buf (Elt Ideal) ℓ) (ρ : Dev nD → PrngReg)

/-- The network's value of the arguments in memory. -/
abbrev result (c : Dev nD) : FVec Ideal S1x65536x2 .f32 :=
  val_main_v61 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- Every run of the reference ends with the network's value in its result and its arguments unchanged. -/
theorem run : θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (val_main_v61_eq (StableHlo.launchContents m c)), (h c).2⟩)
    (Cert.ReferenceIdeal.Value.run m ρ)

/-- Every run of the reference ends with its arguments unchanged; it has no counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (h c).2, sem_eq_zero_of_no_sems rfl r.2⟩) (run m ρ)

end Run

end Cert.ReferenceIdeal.Rows
-- ==== Proof.Same.lean ====
/-
  The kernel program's result is the network's value of its arguments.
-/
module

public import proofs.«01_k».proof.Proof.Tail
public import proofs.«01_k».proof.Proof.Equal
public import proofs.«01_k».proof.Proof.Finite
public import proofs.«01_k».proof.Proof.Reference

@[expose] public section

set_option maxRecDepth 16384

noncomputable section

open Idealize.ShloMosaic Idealize.ShloMosaic.TcCoe Idealize.SL.Sem

namespace Cert.KernelIdeal.Same

open Cert.KernelIdeal Cert.KernelIdeal.Gen Cert.KernelIdeal.Host Cert.KernelIdeal.Final Cert.KernelIdeal.Tail Cert.Reader Cert.Model
  Cert.Layers

variable (m : (ℓ : Loc nD τ sig) → Buf (Elt Ideal) ℓ) (c : Dev nD)
  (x0 : FVec Ideal S1x65536x51 .f32) (x1 : FVec Ideal S3x102x128 .f32) (x2 : FVec Ideal S128 .f32)
  (x3 : FVec Ideal S5x230x128 .f32) (x4 : FVec Ideal S128 .f32) (x5 : FVec Ideal S230x2 .f32) (x6 : FVec Ideal S2 .f32)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4) (e5 : m ((c : Thread nD τ).loc main_arg5) = x5)
  (e6 : m ((c : Thread nD τ).loc main_arg6) = x6)
  (f0 : ∀ n c, rd3 x0 0 n c ≠ ⊤) (f1 : ∀ t c k, c < 51 → rd3 x1 t c k ≠ ⊤ ∧ rd3 x1 t c k ≠ ⊥)
  (f3 : ∀ t c k, c < 51 → rd3 x3 t c k ≠ ⊤ ∧ rd3 x3 t c k ≠ ⊥) (f5 : ∀ c k, c < 51 → rd2 x5 c k ≠ ⊤ ∧ rd2 x5 c k ≠ ⊥)

include e0 e1 e2 e3 e4 e5 e6 f0 f1 f3 f5

/-- The kernel program's result at an index: the network's. -/
theorem result_rd (n k : ℕ) (hn : n < 65536) (hk : k < 2) :
    rd3 (unpacked (G m c)) 0 n k = soft (zr (rd3 x0 0) (rd3 x1) (rd1 x2) (rd3 x3) (rd1 x4) (rd2 x5) (rd1 x6) n k) := by
  have key := Cert.Equal.z_eq (rd2 (packed x0)) (rd3 x0 0) f0 (fun g r q hg hr hq => packed_rd x0 g r q hg hr hq)
    (rd3 x1) (rd3 x3) (rd2 x5) (rd1 x2) (rd1 x4) (rd1 x6) (rd2 (band0 x1 x2)) (rd2 (band1 x3 x4)) (rd2 (bandH x5 x6)) f1 f3 f5
    (band0_rd x1 x2) (band1_x x3 x4) (band1_y x3 x4) (bandH_x x5 x6) (bandH_y x5 x6)
    (n / 2) (n % 2) k (by omega) (by omega) hk
  rw [unpacked_rd _ n k hn hk, rd2_in _ (n / 2) (2 * (n % 2) + k) (by omega) (by omega)]
  unfold G
  rw [V_packed, V_band0, V_band1, V_bandH, e0, e1, e2, e3, e4, e5, e6]
  refine congrArg soft (key.trans ?_)
  rw [show 2 * (n / 2) + n % 2 = n by omega]

/-- The kernel program's result is the reference's of the same arguments. -/
theorem result_eq : unpacked (G m c) = Cert.ReferenceIdeal.Read.val_main_v61 (F := Ideal) x0 x1 x2 x3 x4 x5 x6 := by
  funext i
  obtain ⟨u, n, k, rfl⟩ : ∃ (u : Fin 1) (n : Fin 65536) (k : Fin 2), i = ix3 u n k := ⟨i 0, i 1, i 2, (ix3_eta i).symm⟩
  rw [rd3_of (unpacked (G m c)) u n k 0 n k (by omega) rfl rfl,
    rd3_of (Cert.ReferenceIdeal.Read.val_main_v61 (F := Ideal) x0 x1 x2 x3 x4 x5 x6) u n k 0 n k (by omega) rfl rfl,
    result_rd m c x0 x1 x2 x3 x4 x5 x6 e0 e1 e2 e3 e4 e5 e6 f0 f1 f3 f5 n k n.isLt k.isLt,
    Cert.ReferenceIdeal.Rows.v61_rd x0 x1 x2 x3 x4 x5 x6 n k n.isLt k.isLt]

end Cert.KernelIdeal.Same
-- ==== Proof.lean ====
/-
  The certificate: the kernel, its idealization and the reference run to the end with their arguments unchanged; the
  idealization is the kernel read over the extended reals; and it computes what the reference computes.
-/
module

public import proofs.«01_k».proof.Defs
public import proofs.«01_k».proof.Proof.Gen.Kernel.Frame
public import proofs.«01_k».proof.Proof.Same

@[expose] public section

noncomputable section

namespace Cert.Proof

open Idealize.ShloMosaic Idealize.SL.Sem

/-- On arguments the precondition holds of, the kernel and the reference end with the same result. -/
theorem same [hPre : Cert.Pre_cancels.Facts] : Cert.algebraic_KernelIdeal_ReferenceIdeal_pre_cancels := by
  intro m g m' g' hm a
  refine ⟨_, Cert.KernelIdeal.Tail.run m g, (θ_run _ _ _).mono (fun r h c => ⟨(h c).1.trans ?_, (h c).2⟩)
    (Cert.ReferenceIdeal.Rows.run m' g')⟩
  obtain ⟨p0, p1, p3, p5⟩ := hm c
  obtain ⟨a0, a1, a2, a3, a4, a5, a6⟩ := a c
  exact (Cert.KernelIdeal.Same.result_eq m c _ _ _ _ _ _ _ a0.symm a1.symm a2.symm a3.symm a4.symm a5.symm a6.symm
    (a0 ▸ Cert.Finite.input _ _ _ _ _ _ _ p0) (a1 ▸ Cert.Finite.filter0 _ _ _ _ _ _ _ p1)
    (a3 ▸ Cert.Finite.filter1 _ _ _ _ _ _ _ p3) (a5 ▸ Cert.Finite.head _ _ _ _ _ _ _ p5)).symm

/-- Every claim of the certificate. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Rows.frame m ρ,
    fun m ρ _ => Cert.ReferenceIdeal.Rows.frame m ρ, trivial, @same Cert.Finite.facts⟩

end Cert.Proof

end
